-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 4096]⟩ ⟨2, ![1024, 8192]⟩ (Layout.meshBlock [2, 2, 2] ![[], [2]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 4096]⟩ ⟨2, ![1024, 8192]⟩ (Layout.meshBlock [2, 2, 2] ![[], [2]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S1024x1024 : Shape := ⟨2, ![1024, 1024]⟩
abbrev S2x256x4096 : Shape := ⟨3, ![2, 256, 4096]⟩
abbrev S512x1024 : Shape := ⟨2, ![512, 1024]⟩
abbrev S768x1024 : Shape := ⟨2, ![768, 1024]⟩
abbrev S6 : Shape := ⟨1, ![6]⟩
abbrev S8 : Shape := ⟨1, ![8]⟩
abbrev S16 : Shape := ⟨1, ![16]⟩
abbrev S1 : Shape := ⟨1, ![1]⟩
abbrev S_ : Shape := ⟨0, ![]⟩
abbrev S1x256x4096 : Shape := ⟨3, ![1, 256, 4096]⟩
abbrev S256x4096 : Shape := ⟨2, ![256, 4096]⟩
abbrev S256x256 : Shape := ⟨2, ![256, 256]⟩

abbrev nBuf : Space → Nat
  | .hbm => 3
  | .vmem => 8
  | .smem => 0
  | _ => 0

abbrev bufTy : (tb : Table) → Fin (tcTables nBuf tb) → BufTy
  | .hbm, ⟨0, _⟩ => ⟨S1024x4096, .f32⟩
  | .hbm, ⟨1, _⟩ => ⟨S1024x4096, .f32⟩
  | .hbm, ⟨2, _⟩ => ⟨S1024x1024, .f32⟩
  | .local _ .vmem, ⟨0, _⟩ => ⟨S2x256x4096, .f32⟩
  | .local _ .vmem, ⟨1, _⟩ => ⟨S2x256x4096, .bf16⟩
  | .local _ .vmem, ⟨2, _⟩ => ⟨S1024x4096, .f32⟩
  | .local _ .vmem, ⟨3, _⟩ => ⟨S1024x4096, .bf16⟩
  | .local _ .vmem, ⟨4, _⟩ => ⟨S512x1024, .bf16⟩
  | .local _ .vmem, ⟨5, _⟩ => ⟨S512x1024, .bf16⟩
  | .local _ .vmem, ⟨6, _⟩ => ⟨S768x1024, .bf16⟩
  | .local _ .vmem, ⟨7, _⟩ => ⟨S1024x1024, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  (ofTc nBuf bufTy 1 54 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev barrier0 : Sem sig := 0

abbrev nD : Nat := 8
abbrev τ : Topo := Topo.v7x

variable {F : FTy → Type} [FloatOps F]

abbrev grid0 : Pipeline.Grid := .none

def k0_off1 (d0 : Dev nD) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v11 : BitVec 32 := Scalar.muli v10 c256_i32
  let c0_i32_11 : BitVec 32 := 0#32
  ![v11.toNat, 0]
def k0_off2 (d0 : Dev nD) : Fin 2 → Nat :=
  let c3_i32 : BitVec 32 := 3#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v12 : BitVec 32 := Scalar.subi c3_i32 v10
  let c256_i32_4 : BitVec 32 := 256#32
  let v13 : BitVec 32 := Scalar.muli v12 c256_i32_4
  let c0_i32_33 : BitVec 32 := 0#32
  ![v13.toNat, 0]
def k0_dev1 (d0 : Dev nD) : Nat :=
  let c0_i32_36 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_35 : BitVec 32 := 4#32
  let v44 : BitVec 32 := Scalar.muli v2 c4_i32_35
  let v45 : BitVec 32 := Scalar.addi c0_i32_36 v44
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_37 : BitVec 32 := 2#32
  let v46 : BitVec 32 := Scalar.muli v5 c2_i32_37
  let v47 : BitVec 32 := Scalar.addi v45 v46
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_5 v8
  let c1_i32_38 : BitVec 32 := 1#32
  let v48 : BitVec 32 := Scalar.muli v14 c1_i32_38
  let v49 : BitVec 32 := Scalar.addi v47 v48
  v49.toNat
def k0_dev2 (d0 : Dev nD) : Nat :=
  let c0_i32_41 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_6 v2
  let c4_i32_40 : BitVec 32 := 4#32
  let v50 : BitVec 32 := Scalar.muli v15 c4_i32_40
  let v51 : BitVec 32 := Scalar.addi c0_i32_41 v50
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_42 : BitVec 32 := 2#32
  let v52 : BitVec 32 := Scalar.muli v5 c2_i32_42
  let v53 : BitVec 32 := Scalar.addi v51 v52
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_43 : BitVec 32 := 1#32
  let v54 : BitVec 32 := Scalar.muli v8 c1_i32_43
  let v55 : BitVec 32 := Scalar.addi v53 v54
  v55.toNat
def k0_dev3 (d0 : Dev nD) : Nat :=
  let c0_i32_46 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_45 : BitVec 32 := 4#32
  let v56 : BitVec 32 := Scalar.muli v2 c4_i32_45
  let v57 : BitVec 32 := Scalar.addi c0_i32_46 v56
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_7 v5
  let c2_i32_47 : BitVec 32 := 2#32
  let v58 : BitVec 32 := Scalar.muli v16 c2_i32_47
  let v59 : BitVec 32 := Scalar.addi v57 v58
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_48 : BitVec 32 := 1#32
  let v60 : BitVec 32 := Scalar.muli v8 c1_i32_48
  let v61 : BitVec 32 := Scalar.addi v59 v60
  v61.toNat
def k0_dev4 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v90 : BitVec 32 := Scalar.muli v2 c4_i32_78
  let v91 : BitVec 32 := Scalar.addi c0_i32_79 v90
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v92 : BitVec 32 := Scalar.muli v5 c2_i32_80
  let v93 : BitVec 32 := Scalar.addi v91 v92
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_5 v8
  let c1_i32_81 : BitVec 32 := 1#32
  let v94 : BitVec 32 := Scalar.muli v14 c1_i32_81
  let v95 : BitVec 32 := Scalar.addi v93 v94
  v95.toNat
def k0_dev5 (d0 : Dev nD) : Nat :=
  let c0_i32_105 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_104 : BitVec 32 := 4#32
  let v119 : BitVec 32 := Scalar.muli v2 c4_i32_104
  let v120 : BitVec 32 := Scalar.addi c0_i32_105 v119
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_106 : BitVec 32 := 2#32
  let v121 : BitVec 32 := Scalar.muli v5 c2_i32_106
  let v122 : BitVec 32 := Scalar.addi v120 v121
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_5 v8
  let c1_i32_107 : BitVec 32 := 1#32
  let v123 : BitVec 32 := Scalar.muli v14 c1_i32_107
  let v124 : BitVec 32 := Scalar.addi v122 v123
  v124.toNat
def k0_dev6 (d0 : Dev nD) : Nat :=
  let c0_i32_131 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_130 : BitVec 32 := 4#32
  let v148 : BitVec 32 := Scalar.muli v2 c4_i32_130
  let v149 : BitVec 32 := Scalar.addi c0_i32_131 v148
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_132 : BitVec 32 := 2#32
  let v150 : BitVec 32 := Scalar.muli v5 c2_i32_132
  let v151 : BitVec 32 := Scalar.addi v149 v150
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_5 v8
  let c1_i32_133 : BitVec 32 := 1#32
  let v152 : BitVec 32 := Scalar.muli v14 c1_i32_133
  let v153 : BitVec 32 := Scalar.addi v151 v152
  v153.toNat
def k0_dev7 (d0 : Dev nD) : Nat :=
  let c0_i32_157 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_156 : BitVec 32 := 4#32
  let v177 : BitVec 32 := Scalar.muli v2 c4_i32_156
  let v178 : BitVec 32 := Scalar.addi c0_i32_157 v177
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_158 : BitVec 32 := 2#32
  let v179 : BitVec 32 := Scalar.muli v5 c2_i32_158
  let v180 : BitVec 32 := Scalar.addi v178 v179
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_5 v8
  let c1_i32_159 : BitVec 32 := 1#32
  let v181 : BitVec 32 := Scalar.muli v14 c1_i32_159
  let v182 : BitVec 32 := Scalar.addi v180 v181
  v182.toNat
def k0_dev8 (d0 : Dev nD) : Nat :=
  let c0_i32_185 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_184 : BitVec 32 := 4#32
  let v208 : BitVec 32 := Scalar.muli v2 c4_i32_184
  let v209 : BitVec 32 := Scalar.addi c0_i32_185 v208
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_186 : BitVec 32 := 2#32
  let v210 : BitVec 32 := Scalar.muli v5 c2_i32_186
  let v211 : BitVec 32 := Scalar.addi v209 v210
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_5 v8
  let c1_i32_187 : BitVec 32 := 1#32
  let v212 : BitVec 32 := Scalar.muli v14 c1_i32_187
  let v213 : BitVec 32 := Scalar.addi v211 v212
  v213.toNat
def k0_dev9 (d0 : Dev nD) : Nat :=
  let c0_i32_203 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_202 : BitVec 32 := 4#32
  let v228 : BitVec 32 := Scalar.muli v2 c4_i32_202
  let v229 : BitVec 32 := Scalar.addi c0_i32_203 v228
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_204 : BitVec 32 := 2#32
  let v230 : BitVec 32 := Scalar.muli v5 c2_i32_204
  let v231 : BitVec 32 := Scalar.addi v229 v230
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_5 v8
  let c1_i32_205 : BitVec 32 := 1#32
  let v232 : BitVec 32 := Scalar.muli v14 c1_i32_205
  let v233 : BitVec 32 := Scalar.addi v231 v232
  v233.toNat
def k0_dev10 (d0 : Dev nD) : Nat :=
  let c0_i32_220 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_219 : BitVec 32 := 4#32
  let v248 : BitVec 32 := Scalar.muli v2 c4_i32_219
  let v249 : BitVec 32 := Scalar.addi c0_i32_220 v248
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_221 : BitVec 32 := 2#32
  let v250 : BitVec 32 := Scalar.muli v5 c2_i32_221
  let v251 : BitVec 32 := Scalar.addi v249 v250
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_5 v8
  let c1_i32_222 : BitVec 32 := 1#32
  let v252 : BitVec 32 := Scalar.muli v14 c1_i32_222
  let v253 : BitVec 32 := Scalar.addi v251 v252
  v253.toNat
def k0_dev11 (d0 : Dev nD) : Nat :=
  let c0_i32_237 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_236 : BitVec 32 := 4#32
  let v268 : BitVec 32 := Scalar.muli v2 c4_i32_236
  let v269 : BitVec 32 := Scalar.addi c0_i32_237 v268
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_238 : BitVec 32 := 2#32
  let v270 : BitVec 32 := Scalar.muli v5 c2_i32_238
  let v271 : BitVec 32 := Scalar.addi v269 v270
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_5 v8
  let c1_i32_239 : BitVec 32 := 1#32
  let v272 : BitVec 32 := Scalar.muli v14 c1_i32_239
  let v273 : BitVec 32 := Scalar.addi v271 v272
  v273.toNat
def k0_dev12 (d0 : Dev nD) : Nat :=
  let c0_i32_263 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_6 v2
  let c4_i32_262 : BitVec 32 := 4#32
  let v296 : BitVec 32 := Scalar.muli v15 c4_i32_262
  let v297 : BitVec 32 := Scalar.addi c0_i32_263 v296
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_264 : BitVec 32 := 2#32
  let v298 : BitVec 32 := Scalar.muli v5 c2_i32_264
  let v299 : BitVec 32 := Scalar.addi v297 v298
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_265 : BitVec 32 := 1#32
  let v300 : BitVec 32 := Scalar.muli v8 c1_i32_265
  let v301 : BitVec 32 := Scalar.addi v299 v300
  v301.toNat
def k0_dev13 (d0 : Dev nD) : Nat :=
  let c0_i32_273 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_272 : BitVec 32 := 4#32
  let v308 : BitVec 32 := Scalar.muli v2 c4_i32_272
  let v309 : BitVec 32 := Scalar.addi c0_i32_273 v308
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_7 v5
  let c2_i32_274 : BitVec 32 := 2#32
  let v310 : BitVec 32 := Scalar.muli v16 c2_i32_274
  let v311 : BitVec 32 := Scalar.addi v309 v310
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_275 : BitVec 32 := 1#32
  let v312 : BitVec 32 := Scalar.muli v8 c1_i32_275
  let v313 : BitVec 32 := Scalar.addi v311 v312
  v313.toNat
def k0_off3 (d0 : Dev nD) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v11 : BitVec 32 := Scalar.muli v10 c256_i32
  let v322 : Index := Scalar.indexCast v11
  let c0_282 : Index := 0#32
  ![v322.toNat, 0]
def k0_off4 (d0 : Dev nD) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v11 : BitVec 32 := Scalar.muli v10 c256_i32
  let c0_i32_284 : BitVec 32 := 0#32
  ![v11.toNat, 0]
def k0_dev14 (d0 : Dev nD) : Nat :=
  let c0_i32_305 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_6 v2
  let c4_i32_304 : BitVec 32 := 4#32
  let v346 : BitVec 32 := Scalar.muli v15 c4_i32_304
  let v347 : BitVec 32 := Scalar.addi c0_i32_305 v346
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_306 : BitVec 32 := 2#32
  let v348 : BitVec 32 := Scalar.muli v5 c2_i32_306
  let v349 : BitVec 32 := Scalar.addi v347 v348
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_307 : BitVec 32 := 1#32
  let v350 : BitVec 32 := Scalar.muli v8 c1_i32_307
  let v351 : BitVec 32 := Scalar.addi v349 v350
  v351.toNat
def k0_dev15 (d0 : Dev nD) : Nat :=
  let c0_i32_315 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_314 : BitVec 32 := 4#32
  let v358 : BitVec 32 := Scalar.muli v2 c4_i32_314
  let v359 : BitVec 32 := Scalar.addi c0_i32_315 v358
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_7 v5
  let c2_i32_316 : BitVec 32 := 2#32
  let v360 : BitVec 32 := Scalar.muli v16 c2_i32_316
  let v361 : BitVec 32 := Scalar.addi v359 v360
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_317 : BitVec 32 := 1#32
  let v362 : BitVec 32 := Scalar.muli v8 c1_i32_317
  let v363 : BitVec 32 := Scalar.addi v361 v362
  v363.toNat
def k0_off5 (d0 : Dev nD) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v11 : BitVec 32 := Scalar.muli v10 c256_i32
  let v372 : Index := Scalar.indexCast v11
  let c256_324 : Index := 256#32
  ![v372.toNat, 256]
def k0_off6 (d0 : Dev nD) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v11 : BitVec 32 := Scalar.muli v10 c256_i32
  let c256_i32_326 : BitVec 32 := 256#32
  ![v11.toNat, 256]
def k0_dev16 (d0 : Dev nD) : Nat :=
  let c0_i32_347 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_6 v2
  let c4_i32_346 : BitVec 32 := 4#32
  let v396 : BitVec 32 := Scalar.muli v15 c4_i32_346
  let v397 : BitVec 32 := Scalar.addi c0_i32_347 v396
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_348 : BitVec 32 := 2#32
  let v398 : BitVec 32 := Scalar.muli v5 c2_i32_348
  let v399 : BitVec 32 := Scalar.addi v397 v398
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_349 : BitVec 32 := 1#32
  let v400 : BitVec 32 := Scalar.muli v8 c1_i32_349
  let v401 : BitVec 32 := Scalar.addi v399 v400
  v401.toNat
def k0_dev17 (d0 : Dev nD) : Nat :=
  let c0_i32_357 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_356 : BitVec 32 := 4#32
  let v408 : BitVec 32 := Scalar.muli v2 c4_i32_356
  let v409 : BitVec 32 := Scalar.addi c0_i32_357 v408
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_7 v5
  let c2_i32_358 : BitVec 32 := 2#32
  let v410 : BitVec 32 := Scalar.muli v16 c2_i32_358
  let v411 : BitVec 32 := Scalar.addi v409 v410
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_359 : BitVec 32 := 1#32
  let v412 : BitVec 32 := Scalar.muli v8 c1_i32_359
  let v413 : BitVec 32 := Scalar.addi v411 v412
  v413.toNat
def k0_off7 (d0 : Dev nD) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v11 : BitVec 32 := Scalar.muli v10 c256_i32
  let v422 : Index := Scalar.indexCast v11
  let c512_366 : Index := 512#32
  ![v422.toNat, 512]
def k0_off8 (d0 : Dev nD) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v11 : BitVec 32 := Scalar.muli v10 c256_i32
  let c512_i32_368 : BitVec 32 := 512#32
  ![v11.toNat, 512]
def k0_dev18 (d0 : Dev nD) : Nat :=
  let c0_i32_389 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_6 v2
  let c4_i32_388 : BitVec 32 := 4#32
  let v446 : BitVec 32 := Scalar.muli v15 c4_i32_388
  let v447 : BitVec 32 := Scalar.addi c0_i32_389 v446
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_390 : BitVec 32 := 2#32
  let v448 : BitVec 32 := Scalar.muli v5 c2_i32_390
  let v449 : BitVec 32 := Scalar.addi v447 v448
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_391 : BitVec 32 := 1#32
  let v450 : BitVec 32 := Scalar.muli v8 c1_i32_391
  let v451 : BitVec 32 := Scalar.addi v449 v450
  v451.toNat
def k0_dev19 (d0 : Dev nD) : Nat :=
  let c0_i32_399 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_398 : BitVec 32 := 4#32
  let v458 : BitVec 32 := Scalar.muli v2 c4_i32_398
  let v459 : BitVec 32 := Scalar.addi c0_i32_399 v458
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_7 v5
  let c2_i32_400 : BitVec 32 := 2#32
  let v460 : BitVec 32 := Scalar.muli v16 c2_i32_400
  let v461 : BitVec 32 := Scalar.addi v459 v460
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_401 : BitVec 32 := 1#32
  let v462 : BitVec 32 := Scalar.muli v8 c1_i32_401
  let v463 : BitVec 32 := Scalar.addi v461 v462
  v463.toNat
def k0_off9 (d0 : Dev nD) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v11 : BitVec 32 := Scalar.muli v10 c256_i32
  let v472 : Index := Scalar.indexCast v11
  let c768_408 : Index := 768#32
  ![v472.toNat, 768]
def k0_off10 (d0 : Dev nD) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v11 : BitVec 32 := Scalar.muli v10 c256_i32
  let c768_i32_410 : BitVec 32 := 768#32
  ![v11.toNat, 768]
def k0_off11 (d0 : Dev nD) : Fin 2 → Nat :=
  let c3_i32 : BitVec 32 := 3#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v12 : BitVec 32 := Scalar.subi c3_i32 v10
  let c256_i32_4 : BitVec 32 := 256#32
  let v13 : BitVec 32 := Scalar.muli v12 c256_i32_4
  let v494 : Index := Scalar.indexCast v13
  let c0_426 : Index := 0#32
  ![v494.toNat, 0]
def k0_off12 (d0 : Dev nD) : Fin 2 → Nat :=
  let c3_i32 : BitVec 32 := 3#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v12 : BitVec 32 := Scalar.subi c3_i32 v10
  let c256_i32_4 : BitVec 32 := 256#32
  let v13 : BitVec 32 := Scalar.muli v12 c256_i32_4
  let c0_i32_428 : BitVec 32 := 0#32
  ![v13.toNat, 0]
def k0_off13 (d0 : Dev nD) : Fin 2 → Nat :=
  let c3_i32 : BitVec 32 := 3#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v12 : BitVec 32 := Scalar.subi c3_i32 v10
  let c256_i32_4 : BitVec 32 := 256#32
  let v13 : BitVec 32 := Scalar.muli v12 c256_i32_4
  let v516 : Index := Scalar.indexCast v13
  let c256_444 : Index := 256#32
  ![v516.toNat, 256]
def k0_off14 (d0 : Dev nD) : Fin 2 → Nat :=
  let c3_i32 : BitVec 32 := 3#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v12 : BitVec 32 := Scalar.subi c3_i32 v10
  let c256_i32_4 : BitVec 32 := 256#32
  let v13 : BitVec 32 := Scalar.muli v12 c256_i32_4
  let c256_i32_446 : BitVec 32 := 256#32
  ![v13.toNat, 256]
def k0_off15 (d0 : Dev nD) : Fin 2 → Nat :=
  let c3_i32 : BitVec 32 := 3#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v12 : BitVec 32 := Scalar.subi c3_i32 v10
  let c256_i32_4 : BitVec 32 := 256#32
  let v13 : BitVec 32 := Scalar.muli v12 c256_i32_4
  let v538 : Index := Scalar.indexCast v13
  let c512_462 : Index := 512#32
  ![v538.toNat, 512]
def k0_off16 (d0 : Dev nD) : Fin 2 → Nat :=
  let c3_i32 : BitVec 32 := 3#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v12 : BitVec 32 := Scalar.subi c3_i32 v10
  let c256_i32_4 : BitVec 32 := 256#32
  let v13 : BitVec 32 := Scalar.muli v12 c256_i32_4
  let c512_i32_464 : BitVec 32 := 512#32
  ![v13.toNat, 512]
def k0_off17 (d0 : Dev nD) : Fin 2 → Nat :=
  let c3_i32 : BitVec 32 := 3#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v12 : BitVec 32 := Scalar.subi c3_i32 v10
  let c256_i32_4 : BitVec 32 := 256#32
  let v13 : BitVec 32 := Scalar.muli v12 c256_i32_4
  let v560 : Index := Scalar.indexCast v13
  let c768_480 : Index := 768#32
  ![v560.toNat, 768]
def k0_off18 (d0 : Dev nD) : Fin 2 → Nat :=
  let c3_i32 : BitVec 32 := 3#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v12 : BitVec 32 := Scalar.subi c3_i32 v10
  let c256_i32_4 : BitVec 32 := 256#32
  let v13 : BitVec 32 := Scalar.muli v12 c256_i32_4
  let c768_i32_482 : BitVec 32 := 768#32
  ![v13.toNat, 768]
def k0_off19 (d0 : Dev nD) (c2_i32_494 : BitVec 32) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v578 : BitVec 32 := Scalar.xori v10 c2_i32_494
  let c256_i32_495 : BitVec 32 := 256#32
  let v579 : BitVec 32 := Scalar.muli v578 c256_i32_495
  let v582 : Index := Scalar.indexCast v579
  let c0_498 : Index := 0#32
  ![v582.toNat, 0]
def k0_off20 (d0 : Dev nD) (c2_i32_494 : BitVec 32) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v578 : BitVec 32 := Scalar.xori v10 c2_i32_494
  let c256_i32_495 : BitVec 32 := 256#32
  let v579 : BitVec 32 := Scalar.muli v578 c256_i32_495
  let c0_i32_499 : BitVec 32 := 0#32
  ![v579.toNat, 0]
def k0_off21 (d0 : Dev nD) (c2_i32_528 : BitVec 32) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v622 : BitVec 32 := Scalar.xori v10 c2_i32_528
  let c256_i32_529 : BitVec 32 := 256#32
  let v623 : BitVec 32 := Scalar.muli v622 c256_i32_529
  let v626 : Index := Scalar.indexCast v623
  let c256_532 : Index := 256#32
  ![v626.toNat, 256]
def k0_off22 (d0 : Dev nD) (c2_i32_528 : BitVec 32) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v622 : BitVec 32 := Scalar.xori v10 c2_i32_528
  let c256_i32_529 : BitVec 32 := 256#32
  let v623 : BitVec 32 := Scalar.muli v622 c256_i32_529
  let c256_i32_533 : BitVec 32 := 256#32
  ![v623.toNat, 256]
def k0_off23 (d0 : Dev nD) (c2_i32_562 : BitVec 32) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v666 : BitVec 32 := Scalar.xori v10 c2_i32_562
  let c256_i32_563 : BitVec 32 := 256#32
  let v667 : BitVec 32 := Scalar.muli v666 c256_i32_563
  let v670 : Index := Scalar.indexCast v667
  let c512_566 : Index := 512#32
  ![v670.toNat, 512]
def k0_off24 (d0 : Dev nD) (c2_i32_562 : BitVec 32) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v666 : BitVec 32 := Scalar.xori v10 c2_i32_562
  let c256_i32_563 : BitVec 32 := 256#32
  let v667 : BitVec 32 := Scalar.muli v666 c256_i32_563
  let c512_i32_567 : BitVec 32 := 512#32
  ![v667.toNat, 512]
def k0_off25 (d0 : Dev nD) (c2_i32_596 : BitVec 32) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v710 : BitVec 32 := Scalar.xori v10 c2_i32_596
  let c256_i32_597 : BitVec 32 := 256#32
  let v711 : BitVec 32 := Scalar.muli v710 c256_i32_597
  let v714 : Index := Scalar.indexCast v711
  let c768_600 : Index := 768#32
  ![v714.toNat, 768]
def k0_off26 (d0 : Dev nD) (c2_i32_596 : BitVec 32) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v710 : BitVec 32 := Scalar.xori v10 c2_i32_596
  let c256_i32_597 : BitVec 32 := 256#32
  let v711 : BitVec 32 := Scalar.muli v710 c256_i32_597
  let c768_i32_601 : BitVec 32 := 768#32
  ![v711.toNat, 768]
-- ==== ReferenceIdeal.lean ====
abbrev S1024x8192 : Shape := ⟨2, ![1024, 8192]⟩
abbrev S8192x1024 : Shape := ⟨2, ![8192, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S1024x8192, .f32⟩
  | .hbm, ⟨1, _⟩ => ⟨S1024x8192, .f32⟩
  | .hbm, ⟨2, _⟩ => ⟨S8192x1024, .f32⟩
  | .hbm, ⟨3, _⟩ => ⟨S1024x1024, .f32⟩
  | _, _ => ⟨S1024x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Cells.lean ====
/-
# The places, tiles, contents and cells of the exchange

Eight devices stand at the corners of a cube; device `c` has one neighbour along each axis (`xn`, `yn`, `zp`). It
multiplies its half of the contraction for two row blocks of the result — its own and the one at the opposite corner —,
swaps the products with `zp c`, adds, and passes its own row block's sum on to `xn c` and `yn c`. This file names what
the proof speaks of: the tiles of every buffer, what each holds once written, the semaphores, and the device's debts.

## The protocol

Every cell below has one round, round 0. `NT` is the credit of one 256 x 256 tile.

* barrier of `c`: `zp c`, `xn c`, `yn c` each raise it by 1, `c` waits for 3 before its first remote copy. With its unit
  `zp c` hands over its whole receive buffer, `xn c` rows 256 to 512 of its exchange buffer, `yn c` rows 512 to 768.
* z receive `k` of `c` (`k < 8`): `zp c` copies its product tile `k` onto it, `NT`; it hands over receive tile `k`
  holding that product.
* z send `k` of `c`: its own copy's sending end; it gives back the half share of product tile `k` that was being read.
* xy receive `j` of `c` (`j < 8`): `xn c` (`j` even) or `yn c` (`j` odd) copies its sum tile `j / 2` onto it, `NT`; it
  hands over the exchange tile of row `1 + j % 2` holding that sum.
* xy send `j` of `c`: its own copy's sending end; the share of sum tile `j / 2` comes back.
* the local copies' semaphores have one copy each, started and awaited by `c` alone.

A wait is above what may still be owed then: barrier at level 1, z receive at 2, xy receive at 3, everything local at 0.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.MemrefSat
public import Idealize.ShloMosaic.Lib.Tactic

@[expose] public section

noncomputable section

namespace Cert.CubeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the launch's own, the exchange's rounds, the local copies' counters -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The exchange's rounds: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
omit [FloatOps F] in
instance ER_landsIn : (ER : Emb UB 𝕄).LandsIn (upEmb : UEmb _ 𝕄) := by unfold ER; infer_instance
/-- The local copies' counters: the right half of the right factor. -/
abbrev EC : UEmb Counters (MT nD τ sig Unit (Elt F) ℕ UU ℕ) := countersEmb

variable (m : (ℓ : Loc nD τ sig) → Buf (Elt F) ℓ)

/-! ## The neighbours -/

set_option backward.proofsInPublic true in
/-- The neighbour along the third axis. -/
def zp (c : Dev nD) : Dev nD := ⟨(4 * (c.val / 4) + 2 * ((c.val / 2) % 2) + 1) - (c.val % 2), by revert c; decide⟩
set_option backward.proofsInPublic true in
/-- The neighbour along the first axis. -/
def xn (c : Dev nD) : Dev nD := ⟨(2 * ((c.val / 2) % 2) + (c.val % 2) + 4) - 4 * (c.val / 4), by revert c; decide⟩
set_option backward.proofsInPublic true in
/-- The neighbour along the second axis. -/
def yn (c : Dev nD) : Dev nD := ⟨(4 * (c.val / 4) + (c.val % 2) + 2) - 2 * ((c.val / 2) % 2), by revert c; decide⟩

theorem zp_zp (c : Dev nD) : zp (zp c) = c := by revert c; decide
theorem xn_xn (c : Dev nD) : xn (xn c) = c := by revert c; decide
theorem yn_yn (c : Dev nD) : yn (yn c) = c := by revert c; decide

def zEq : Dev nD ≃ Dev nD := ⟨zp, zp, zp_zp, zp_zp⟩
def xEq : Dev nD ≃ Dev nD := ⟨xn, xn, xn_xn, xn_xn⟩
def yEq : Dev nD ≃ Dev nD := ⟨yn, yn, yn_yn, yn_yn⟩

/-- The neighbour that copy `j` of the second exchange goes to: `xn` for even `j`, `yn` for odd. -/
def nb (j : Fin 8) (c : Dev nD) : Dev nD := if j.val % 2 = 0 then xn c else yn c
theorem nb_nb (j : Fin 8) (c : Dev nD) : nb j (nb j c) = c := by unfold nb; split <;> [exact xn_xn c; exact yn_yn c]

/-! ## The rectangles -/

/-- The first row of row block `t` as device `c` numbers them: its own, the opposite corner's, its two neighbours'. -/
def rowOff (c : Dev nD) (t : Fin 4) : ℕ := match t with
  | 0 => 512 * (c.val / 4) + 256 * ((c.val / 2) % 2)
  | 1 => 768 - (512 * (c.val / 4) + 256 * ((c.val / 2) % 2))
  | 2 => 512 * ((xn c).val / 4) + 256 * (((xn c).val / 2) % 2)
  | 3 => 512 * ((yn c).val / 4) + 256 * (((yn c).val / 2) % 2)

theorem rowOff_le (c : Dev nD) (t : Fin 4) : rowOff c t ≤ 768 := by revert c t; decide
theorem rowOff_zp (c : Dev nD) (t : Fin 4) : rowOff (zp c) t = rowOff c t := by revert c t; decide
theorem rowOff_sep (c : Dev nD) (t t' : Fin 4) (h : t ≠ t') : rowOff c t + 256 ≤ rowOff c t' ∨ rowOff c t' + 256 ≤ rowOff c t := by
  revert c t t'; decide
/-- Every row lies in one of the four blocks. -/
theorem rowOff_cov (c : Dev nD) (n : ℕ) (h : n < 1024) : ∃ t : Fin 4, rowOff c t ≤ n ∧ n < rowOff c t + 256 := by
  have key : ∀ (c : Dev nD) (b : Fin 4), ∃ t : Fin 4, rowOff c t = 256 * b.val := by decide
  obtain ⟨t, ht⟩ := key c ⟨n / 256, by omega⟩
  exact ⟨t, by rw [ht]; dsimp only; omega, by rw [ht]; dsimp only; omega⟩

theorem off2 {A B a b d e : ℕ} (h₁ : a + d ≤ A) (h₂ : b + e ≤ B) : ∀ i, (![a, b] : Fin 2 → ℕ) i + (![d, e] : Fin 2 → ℕ) i ≤ (![A, B] : Fin 2 → ℕ) i :=
  fun i => by fin_cases i <;> [exact h₁; exact h₂]

abbrev rRow (c : Dev nD) (t : Fin 4) : Rect S1024x4096 :=
  Rect.unit (s := S1024x4096) ![rowOff c t, 0] S256x4096.size (off2 (by have := rowOff_le c t; omega) (by decide))
abbrev rW (k : Fin 4) : Rect S1024x4096 :=
  Rect.unit (s := S1024x4096) ![256 * k.val, 0] S256x4096.size (off2 (by have := k.isLt; omega) (by decide))
abbrev rY (i : Fin 2) : Rect S2x256x4096 :=
  Rect.unit (s := S2x256x4096) ![i.val, 0, 0] S1x256x4096.size (by revert i; decide)
abbrev rS (k : Fin 8) : Rect S512x1024 :=
  Rect.unit (s := S512x1024) ![256 * (k.val / 4), 256 * (k.val % 4)] S256x256.size (off2 (by have := k.isLt; omega) (by omega))
abbrev rO (r : Fin 3) (k : Fin 4) : Rect S768x1024 :=
  Rect.unit (s := S768x1024) ![256 * r.val, 256 * k.val] S256x256.size (off2 (by have := r.isLt; omega) (by have := k.isLt; omega))
abbrev rG (c : Dev nD) (t k : Fin 4) : Rect S1024x1024 :=
  Rect.unit (s := S1024x1024) ![rowOff c t, 256 * k.val] S256x256.size (off2 (by have := rowOff_le c t; omega) (by have := k.isLt; omega))

/-! ## The tiles -/

/-- Row block `t` of the first argument, -/
def dT (c : Dev nD) (t : Fin 4) : Memref sig .tc .hbm S256x4096 .f32 := (Memref.whole main_arg0).slice (rRow c t) (fun _ => rfl)
/-- row block `k` of the second, -/
def wT (k : Fin 4) : Memref sig .tc .hbm S256x4096 .f32 := (Memref.whole main_arg1).slice (rW k) (fun _ => rfl)
/-- their copies in fast memory, and the same in the narrow format; -/
def yT (i : Fin 2) : Memref sig .tc .vmem S1x256x4096 .f32 := (Memref.whole cc0_scratch0).slice (rY i) (fun _ => rfl)
def yqT (i : Fin 2) : Memref sig .tc .vmem S256x4096 .f32 := (yT i).squeeze S256x4096 squeezes_S1x256x4096_S256x4096
def ybT (i : Fin 2) : Memref sig .tc .vmem S1x256x4096 .bf16 := (Memref.whole cc0_scratch1).slice (rY i) (fun _ => rfl)
def fT (k : Fin 4) : Memref sig .tc .vmem S256x4096 .f32 := (Memref.whole cc0_scratch2).slice (rW k) (fun _ => rfl)
def bT (k : Fin 4) : Memref sig .tc .vmem S256x4096 .bf16 := (Memref.whole cc0_scratch3).slice (rW k) (fun _ => rfl)
/-- product tile `k` (own row block first, then the opposite one), the tile it lands in on the other side, -/
def sT (k : Fin 8) : Memref sig .tc .vmem S256x256 .bf16 := (Memref.whole cc0_scratch4).slice (rS k) (fun _ => rfl)
def rT (k : Fin 8) : Memref sig .tc .vmem S256x256 .bf16 := (Memref.whole cc0_scratch5).slice (rS k) (fun _ => rfl)
/-- exchange tile: own sums (`r = 0`), the two neighbours' (1 and 2), -/
def oT (r : Fin 3) (k : Fin 4) : Memref sig .tc .vmem S256x256 .bf16 := (Memref.whole cc0_scratch6).slice (rO r k) (fun _ => rfl)
/-- a tile of the result being put together and of the result. -/
def gT (c : Dev nD) (t k : Fin 4) : Memref sig .tc .vmem S256x256 .f32 := (Memref.whole cc0_scratch7).slice (rG c t k) (fun _ => rfl)
def uT (c : Dev nD) (t k : Fin 4) : Memref sig .tc .hbm S256x256 .f32 := (Memref.whole main_v1).slice (rG c t k) (fun _ => rfl)

/-- The credit of one tile's copy. -/
abbrev NT : ℕ := (rT 0).view.dmaCredit
theorem NT_pos : 0 < NT := View.dmaCredit_pos _ (by decide)
theorem credit_r (k : Fin 8) : (rT k).view.dmaCredit = NT := rfl
theorem credit_o (r : Fin 3) (k : Fin 4) : (oT r k).view.dmaCredit = NT := by decide +revert
theorem credit_s (k : Fin 8) : (sT k).view.dmaCredit = NT := by decide +revert

/-! ## What the tiles hold -/

/-- Row block `t` of device `c`'s first argument, -/
def dyV (c : Dev nD) (t : Fin 4) : Vec F S256x4096 .f32 := fun j => m ((c : Thread nD τ).loc main_arg0) ((rRow c t).emb j)
/-- row block `k` of its second. -/
def wV (c : Dev nD) (k : Fin 4) : Vec F S256x4096 .f32 := fun j => m ((c : Thread nD τ).loc main_arg1) ((rW k).emb j)
theorem casts1 : S256x4096.ShapeCasts S1x256x4096 := shapeCasts_S256x4096_S1x256x4096
/-- Row block `i` as copied in, and in the narrow format; -/
def y1V (c : Dev nD) (i : Fin 2) : Vec F S1x256x4096 .f32 := shapeCast S1x256x4096 (dyV m c (i.castLE (by decide))) casts1
def ybV (c : Dev nD) (i : Fin 2) : Vec F S1x256x4096 .bf16 := k0_pay1 (y1V m c i)
def bV (c : Dev nD) (k : Fin 4) : Vec F S256x4096 .bf16 := k0_pay2 (wV m c k)
/-- device `c`'s product tile for column block `k`: own row block (`i = 0`) or the opposite one (`i = 1`), -/
def pV (c : Dev nD) (i : Fin 2) (k : Fin 4) : Vec F S256x256 .bf16 := k0_pay3 (ybV m c i) (bV m c k)
def sV (c : Dev nD) (k : Fin 8) : Vec F S256x256 .bf16 := pV m c ⟨k.val / 4, by have := k.isLt; omega⟩ ⟨k.val % 4, by omega⟩
/-- its sum with the neighbour's, -/
def oV (c : Dev nD) (k : Fin 4) : Vec F S256x256 .bf16 := k0_pay15 (pV m c 0 k) (pV m (zp c) 0 k)
/-- and the result's tile in row block `t` and column block `k`. -/
def uV (c : Dev nD) (t k : Fin 4) : Vec F S256x256 .f32 := match t with
  | 0 => k0_pay16 (oV m c k)
  | 1 => k0_pay24 (pV m c 1 k) (pV m (zp c) 1 k)
  | 2 => k0_pay28 (oV m (xn c) k)
  | 3 => k0_pay28 (oV m (yn c) k)

/-! ## The semaphores -/

abbrev barS : Sem sig := (SemArray.scalar (sig.barrier 0 rfl) : Sems sig S_).sem
abbrev dS (n : ℕ) (h : n < 54) : DmaSem sig := ⟨n, h⟩
abbrev cpS (i : Fin 6) : DmaSem sig := dS i.val (by omega)
abbrev zsS (k : Fin 8) : DmaSem sig := dS (6 + k.val) (by omega)
abbrev zrS (k : Fin 8) : DmaSem sig := dS (14 + k.val) (by omega)
abbrev xsS (j : Fin 8) : DmaSem sig := dS (22 + j.val) (by omega)
abbrev xrS (j : Fin 8) : DmaSem sig := dS (30 + j.val) (by omega)
abbrev outS (i : Fin 16) : DmaSem sig := dS (38 + i.val) (by omega)

abbrev barC (c : Dev nD) : GSem nD τ sig := ((c : Thread nD τ), .reg barS)
abbrev dC (c : Dev nD) (q : DmaSem sig) : GSem nD τ sig := ((c : Thread nD τ), .dma q)

/-! ## Ownership of a tile, at contents named or not -/

/-- Tile `t` of device `c` at share `q`, holding `X`. -/
abbrev own (c : Dev nD) {sp : Space} {sh : Shape} {e : EltTy} (t : Memref sig .tc sp sh e) (q : PosShare TreeShare) (X : sh.Idx → Elt F e) : sProp 𝕄 :=
  owns (Ix := Unit) (Name := ℕ) (U := UU) (Lvl := ℕ) (c : Thread nD τ) t q X
/-- The same, whole, at contents that do not matter. -/
def anyT (c : Dev nD) {sp : Space} {sh : Shape} {e : EltTy} (t : Memref sig .tc sp sh e) : sProp 𝕄 :=
  iprop(∃ X, own (F := F) c t fullShare X)
omit [FloatOps F] in
instance anyT_storable (c : Dev nD) {sp : Space} {sh : Shape} {e : EltTy} (t : Memref sig .tc sp sh e) :
    BI.Storable (upEmb : UEmb _ 𝕄) (anyT (F := F) c t) := by unfold anyT; infer_instance

/-! ## The schedule -/

/-- What the neighbour paying barrier duty `d` hands device `c`. -/
def barPay (c : Dev nD) (d : Fin 3) : sProp 𝕄 := match d with
  | 0 => bigSep Finset.univ fun k : Fin 8 => anyT (F := F) (zp c) (rT k)
  | 1 => bigSep Finset.univ fun k : Fin 4 => anyT (F := F) (xn c) (oT 1 k)
  | 2 => bigSep Finset.univ fun k : Fin 4 => anyT (F := F) (yn c) (oT 2 k)

/-- The share of sum tile `j / 2` that copy `j` of the second exchange reads. -/
def xsh (j : Fin 8) : PosShare TreeShare := if j.val % 2 = 0 then fullShare.left else fullShare.right.left
def kOf (j : Fin 8) : Fin 4 := ⟨j.val / 2, by omega⟩
def rOf (j : Fin 8) : Fin 3 := ⟨1 + j.val % 2, by omega⟩

def zsPay (c : Dev nD) (k : Fin 8) : sProp 𝕄 := own c (sT k) fullShare.left (sV m c k)
def zrPay (c : Dev nD) (k : Fin 8) : sProp 𝕄 := own c (rT k) fullShare (sV m (zp c) k)
def xsPay (c : Dev nD) (j : Fin 8) : sProp 𝕄 := own c (oT 0 (kOf j)) (xsh j) (oV m c (kOf j))
def xrPay (c : Dev nD) (j : Fin 8) : sProp 𝕄 := own c (oT (rOf j) (kOf j)) fullShare (oV m (nb j c) (kOf j))

def dmaPay (c : Dev nD) (n : ℕ) : sProp 𝕄 :=
  if n < 14 then zsPay m c (Fin.ofNat 8 (n - 6)) else if n < 22 then zrPay m c (Fin.ofNat 8 (n - 14))
  else if n < 30 then xsPay m c (Fin.ofNat 8 (n - 22)) else xrPay m c (Fin.ofNat 8 (n - 30))

def Rd : Rounds.Schedule (GSem nD τ sig) (Fin 3) 𝕄 where
  duties g r := if r = 0 ∧ g.1.2 = .tc then (match g.2 with
    | .reg s => if s = barS then Finset.univ else ∅
    | .dma q => if 6 ≤ q.val ∧ q.val < 38 then {0} else ∅) else ∅
  unitless _ := False
  amount g _ _ := match g.2 with
    | .reg _ => 1
    | .dma _ => NT
  payload g _ d := match g.2 with
    | .reg _ => barPay g.1.1 d
    | .dma q => dmaPay m g.1.1 q.val
  amount_pos g _ _ _ := by
    rcases g with ⟨t, s | q⟩
    · exact Nat.one_pos
    · exact NT_pos

instance Rd_payload_storable (g : GSem nD τ sig) (r : ℕ) (d : Fin 3) :
    BI.Storable (upEmb : UEmb _ 𝕄) ((Rd (F := F) m).payload g r d) := by
  rcases g with ⟨t, s | q⟩
  · show BI.Storable upEmb (barPay t.1 d)
    fin_cases d <;> · simp only [barPay]; infer_instance
  · show BI.Storable upEmb (dmaPay m t.1 q.val)
    unfold dmaPay zsPay zrPay xsPay xrPay
    (repeat' split) <;> infer_instance

section Sched
variable (c : Dev nD)

theorem duties_bar : (Rd (F := F) m).duties (barC c) 0 = Finset.univ := rfl
theorem duties_dma (q : DmaSem sig) (h : 6 ≤ q.val ∧ q.val < 38) : (Rd (F := F) m).duties (dC c q) 0 = {0} := by
  dsimp only [Rd]; rw [if_pos ⟨rfl, rfl⟩, if_pos h]
theorem duties_later (g : GSem nD τ sig) : ∀ r, 1 ≤ r → (Rd (F := F) m).duties g r = ∅ :=
  fun r hr => by dsimp only [Rd]; rw [if_neg fun h => by omega]
theorem amount_bar (d : Fin 3) : (Rd (F := F) m).amount (barC c) 0 d = 1 := rfl
theorem amount_dma (q : DmaSem sig) (d : Fin 3) : (Rd (F := F) m).amount (dC c q) 0 d = NT := rfl
theorem expect_bar : (Rd (F := F) m).expect (barC c) 0 = 3 := by
  unfold Schedule.expect Schedule.amountOf
  rw [duties_bar, Finset.sum_congr rfl fun d _ => amount_bar m c d]; decide
theorem expect_dma (q : DmaSem sig) (h : 6 ≤ q.val ∧ q.val < 38) : (Rd (F := F) m).expect (dC c q) 0 = NT := by
  unfold Schedule.expect Schedule.amountOf; rw [duties_dma m c q h, Finset.sum_singleton, amount_dma]
theorem ofNat8 (k : Fin 8) (b : ℕ) : Fin.ofNat 8 (b + k.val - b) = k := Fin.ext (by
  show (b + k.val - b) % 8 = k.val
  rw [Nat.add_sub_cancel_left]; exact Nat.mod_eq_of_lt k.isLt)
theorem payload_bar (d : Fin 3) : (Rd (F := F) m).payload (barC c) 0 d = barPay c d := rfl
theorem payload_zs (k : Fin 8) (d : Fin 3) : (Rd (F := F) m).payload (dC c (zsS k)) 0 d = zsPay m c k := by
  show dmaPay m c (6 + k.val) = _
  unfold dmaPay; rw [if_pos (by omega), ofNat8]
theorem payload_zr (k : Fin 8) (d : Fin 3) : (Rd (F := F) m).payload (dC c (zrS k)) 0 d = zrPay m c k := by
  show dmaPay m c (14 + k.val) = _
  unfold dmaPay; rw [if_neg (by omega), if_pos (by omega), ofNat8]
theorem payload_xs (k : Fin 8) (d : Fin 3) : (Rd (F := F) m).payload (dC c (xsS k)) 0 d = xsPay m c k := by
  show dmaPay m c (22 + k.val) = _
  unfold dmaPay; rw [if_neg (by omega), if_neg (by omega), if_pos (by omega), ofNat8]
theorem payload_xr (k : Fin 8) (d : Fin 3) : (Rd (F := F) m).payload (dC c (xrS k)) 0 d = xrPay m c k := by
  show dmaPay m c (30 + k.val) = _
  unfold dmaPay; rw [if_neg (by omega), if_neg (by omega), if_neg (by omega), ofNat8]
/-- All of a one-copy cell's round, no duty taken. -/
theorem rest_dma (q : DmaSem sig) (h : 6 ≤ q.val ∧ q.val < 38) :
    bigSep ((Rd (F := F) m).duties (dC c q) 0 \ ∅) (fun d => (Rd (F := F) m).payload (dC c q) 0 d) = (Rd (F := F) m).payload (dC c q) 0 0 := by
  rw [Finset.sdiff_empty, duties_dma m c q h, bigSep_singleton]
/-- All of the barrier's. -/
theorem rest_bar : bigSep ((Rd (F := F) m).duties (barC c) 0 \ ∅) (fun d => (Rd (F := F) m).payload (barC c) 0 d)
    = iprop(barPay (F := F) c 0 ∗ barPay c 1 ∗ barPay c 2) := by
  rw [Finset.sdiff_empty, duties_bar]
  exact bigSep_univ_eq_bigSepL [(0 : Fin 3), 1, 2] (by decide) (by decide) _
end Sched

/-! ## What a device owes, and the levels -/

/-- The debts in the order they fall due, last first: the second exchange's eight copies, the first's eight, and the three
    barrier units. -/
def debtC (c : Dev nD) (n : ℕ) : GSem nD τ sig :=
  if n < 8 then dC (nb (Fin.ofNat 8 (7 - n)) c) (xrS (Fin.ofNat 8 (7 - n)))
  else if n < 16 then dC (zp c) (zrS (Fin.ofNat 8 (15 - n)))
  else if n = 16 then barC (yn c) else if n = 17 then barC (xn c) else barC (zp c)
def debtA (n : ℕ) : ℕ := if n < 16 then NT else 1
/-- What is owed while `n` debts are left. -/
def owe (c : Dev nD) : ℕ → CellTallies nD τ sig Unit
  | 0 => 0
  | n + 1 => owe c n + tallyAt (debtC c n) () (debtA n)

def L (g : GSem nD τ sig) : Finset Unit := if g.1.2 = .tc then {()} else ∅
def lvS : SemLoc sig → ℕ
  | .reg _ => 1
  | .dma q => if 14 ≤ q.val ∧ q.val < 22 then 2 else if 30 ≤ q.val ∧ q.val < 38 then 3 else 0
def lv (g : GSem nD τ sig) (_ : Unit) : ℕ := lvS g.2
def debtL (n : ℕ) : ℕ := if n < 8 then 3 else if n < 16 then 2 else 1

theorem L_of_ne (g : GSem nD τ sig) (h : g.1.2 ≠ .tc) : L g = ∅ := if_neg h
theorem L_tc (c : Dev nD) (sm : SemLoc sig) : L ((c : Thread nD τ), sm) = {()} := if_pos rfl
theorem debtC_tc (c : Dev nD) (n : ℕ) : ∃ (d : Dev nD) (sm : SemLoc sig), debtC c n = ((d : Thread nD τ), sm) := by
  unfold debtC; (repeat' split) <;> exact ⟨_, _, rfl⟩
theorem debtC_lv (c : Dev nD) (n : ℕ) : lv (debtC c n) () = debtL n := by
  unfold debtC debtL
  by_cases h : n < 8
  · rw [if_pos h, if_pos h]
    have := (Fin.ofNat 8 (7 - n)).isLt
    show (if _ then _ else _) = _
    rw [if_neg (by dsimp only; omega), if_pos (by dsimp only; omega)]
  rw [if_neg h, if_neg h]
  by_cases h : n < 16
  · rw [if_pos h, if_pos h]
    have := (Fin.ofNat 8 (15 - n)).isLt
    show (if _ then _ else _) = _
    rw [if_pos (by dsimp only; omega)]
  rw [if_neg h, if_neg h]
  (repeat' split) <;> rfl

theorem owe_pos {c : Dev nD} {g : GSem nD τ sig} {u : Unit} : ∀ n, 0 < owe c n g u → ∃ j, j < n ∧ g = debtC c j
  | 0, h => absurd h (Nat.lt_irrefl 0)
  | n + 1, h => by
    have h' : 0 < owe c n g u + tallyAt (debtC c n) () (debtA n) g u := h
    by_cases h0 : 0 < owe c n g u
    · obtain ⟨j, hj, hg⟩ := owe_pos n h0; exact ⟨j, by omega, hg⟩
    · exact ⟨n, by omega, (Pipeline.tallyAt_pos (by omega : 0 < tallyAt (debtC c n) () (debtA n) g u)).1⟩

omit [FloatOps F] in
/-- A wait below every debt left is allowed. -/
theorem mayWait (c : Dev nD) (sm : SemLoc sig) (n : ℕ) (h : ∀ j, j < n → lvS sm < debtL j) :
    (levAts L lv : sProp 𝕄) ⊢ MayWait (c : Thread nD τ) sm () (owe c n) :=
  MayOwe.of_cut (L := L) (lev := lv) (lvS sm) (fun p hp => by rw [Finset.mem_singleton.mp hp, L_tc]; exact Finset.mem_singleton_self _)
    (fun g u hg => by
      obtain ⟨j, _, rfl⟩ := owe_pos n hg
      obtain ⟨d, s, hd⟩ := debtC_tc c j
      rw [hd, L_tc]; exact Finset.mem_singleton_self _)
    (fun p hp => by rw [Finset.mem_singleton.mp hp]; exact le_rfl)
    (fun g u hg => by obtain ⟨j, hj, rfl⟩ := owe_pos n hg; exact (h j hj).trans_eq (debtC_lv c j).symm)

theorem debtL_bar (j : ℕ) (h : j < 16) : 1 < debtL j := by unfold debtL; (repeat' split) <;> omega
theorem debtL_zr (j : ℕ) (h : j < 8) : 2 < debtL j := by unfold debtL; rw [if_pos h]; decide
theorem debtL_pos (j : ℕ) : 0 < debtL j := by unfold debtL; (repeat' split) <;> decide

/-- What device `c` owes while `n` debts are left, whatever it has waited on. -/
def Ow (c : Dev nD) (n : ℕ) : sProp 𝕄 := iprop(∃ W, owes (c : Thread nD τ) (owe c n) W)

end Cert.CubeProof

end
-- ==== Proof.Steps.lean ====
/-
# One rule per kind of operation

What each operation of the body does to the tiles a device owns: a load, a store, a local copy started and awaited, a
barrier unit raised and the barrier awaited, a tile sent to a neighbour, a one-copy cell awaited. The body's operations
name their memrefs, semaphores and target devices by expressions; every rule takes those as variables with an equation.
-/
module

public import proofs.«01_k».proof.Proof.Cells
public import Idealize.ShloMosaic.Lib.Pipeline.Value

@[expose] public section

noncomputable section

namespace Cert.CubeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

open Idealize.ShloMosaic.Transfers

abbrev 𝒱₀ : Variants := Variants.none

/-- The weakest precondition of device `c`'s program. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What every device may use at any time -/

/-- The exchange's cells of a device: the barrier's and the 32 remote copies' ends. -/
def csem (k : Fin 33) : SemLoc sig := if h : k.val = 0 then .reg barS else .dma (dS (5 + k.val) (by omega))
abbrev kcell (ck : Dev nD × Fin 33) : GSem nD τ sig := ((ck.1 : Thread nD τ), csem ck.2)

/-- A cell's invariant, at some name, and that its round 0 is open. -/
def cellOK (g : GSem nD τ sig) : sProp 𝕄 := iprop(∃ κ, cellInv ER (Rd m) κ g ∗ reached ER g 0)
instance cellOK_persistent (g : GSem nD τ sig) : BI.Persistent (cellOK m g) := by unfold cellOK; infer_instance

/-- The level facts and every cell of the exchange. -/
def world : sProp 𝕄 := iprop(levAts L lv ∗ bigSep Finset.univ fun ck : Dev nD × Fin 33 => cellOK m (kcell ck))
instance world_persistent : BI.Persistent (world m) := by unfold world; infer_instance

theorem world_lev : world m ⊢ levAts L lv := by unfold world; iintro ⟨H, -⟩; iexact H
theorem world_cell (ck : Dev nD × Fin 33) : world m ⊢ cellOK m (kcell ck) := by
  refine sep_elim_right.trans ?_
  exact bigSep_elim (Φ := fun ck : Dev nD × Fin 33 => cellOK m (kcell ck)) (Finset.mem_univ ck)
theorem world_bar (c : Dev nD) : world m ⊢ cellOK m (barC c) := world_cell m (c, 0)
theorem world_dma (c : Dev nD) (q : DmaSem sig) (h : 6 ≤ q.val ∧ q.val < 38) : world m ⊢ cellOK m (dC c q) := by
  have e : kcell (c, ⟨q.val - 5, by omega⟩) = dC c q := by
    show ((c : Thread nD τ), csem _) = _
    unfold csem
    rw [dif_neg (by dsimp only; omega)]
    exact congrArg (fun x => ((c : Thread nD τ), SemLoc.dma x)) (Fin.ext (by show 5 + (q.val - 5) = q.val; omega))
  rw [← e]; exact world_cell m _

/-! ## Loads and stores -/

section Ops
variable (c : Dev nD) {α : Type}

omit m in
theorem ld {sp : CoreSpace} {s : Shape} {e : EltTy} {M : Memref sig .tc sp s e} {r : Rect s} {hr : ∀ a, r.stride a = 1}
    (t : Memref sig .tc sp r.shape e) (ht : t = M.slice r hr) {q : PosShare TreeShare} {X : r.shape.Idx → Elt F e}
    {hl : M.view.LoadsAt r.toLoadRect} {Q : α → sProp 𝕄} {k : (r.shape.Idx → Elt F e) → Prog (TpuEff nD τ sig (Elt F) Λ₀ .tc) α} :
    own c t q X ⊢ iprop((own c t q X -∗ WP c (k X) Q) -∗ WP c (.op (.load M r.toLoadRect hl) k) Q) := by
  subst ht
  unfold own owns
  iintro ⟨%f, %hf, H⟩ Hk
  iapply (wp_load_rect 𝒱₀ (c : Thread nD τ) none Set.univ (m := M) (r := r) (hl := hl) (S := (M.access r).set) (q := q) (f := f) subset_rfl) $$ H
  iintro H
  rw [show (M.access r).read (Elt F) f = X from hf]
  iapply Hk
  iexists f
  isplitr; · ipureintro; exact hf
  iexact H

omit m in
theorem st {sp : CoreSpace} {s : Shape} {e : EltTy} {M : Memref sig .tc sp s e} {r : Rect s} {hr : ∀ a, r.stride a = 1}
    (t : Memref sig .tc sp r.shape e) (ht : t = M.slice r hr) {X w : r.shape.Idx → Elt F e}
    {hx : (M.access r).Stores Finset.univ} {hm : Finset.univ = Finset.univ ∨ ∀ a, r.stride a = 1}
    {Q : α → sProp 𝕄} {k : PUnit → Prog (TpuEff nD τ sig (Elt F) Λ₀ .tc) α} :
    own c t fullShare X ⊢ iprop((own c t fullShare w -∗ WP c (k ⟨⟩) Q) -∗ WP c (.op (.store M r w Finset.univ hx hm) k) Q) := by
  subst ht
  unfold own owns
  iintro ⟨%f, %hf, H⟩ Hk
  iapply (wp_store 𝒱₀ (c : Thread nD τ) none Set.univ (m := M) (r := r) (w := w) (Mk := Finset.univ) (hx := hx) (hm := hm) (S := (M.access r).set) (f := f)
    (by rw [View.setOn_univ])) $$ H
  iintro H
  iapply Hk
  iexists ((M.access r).write (Elt F) f w Finset.univ)
  isplitr; · ipureintro; exact View.read_write_univ _ _
  iexact H

/-! ## Local copies -/

/-- A local copy under way from `src` to `dst` on semaphore `q`. -/
def Fl {sp sp' : Space} {sh : Shape} {e : EltTy} (q : DmaSem sig) (src : Memref sig .tc sp sh e) (dst : Memref sig .tc sp' sh e)
    (sh₁ : PosShare TreeShare) (X : sh.Idx → Elt F e) : sProp 𝕄 :=
  Flight EC (c : Thread nD τ) (.dma q) () dst.view.dmaCredit iprop(own c dst fullShare X ∗ own c src sh₁ X)

omit m in
theorem fl_of {sp sp' : Space} {sh : Shape} {e : EltTy} (q : DmaSem sig) (src : Memref sig .tc sp sh e) (dst : Memref sig .tc sp' sh e)
    {sh₁ : PosShare TreeShare} {X : sh.Idx → Elt F e} {f : Buf (Elt F) (src.view.loc (c : Thread nD τ))} (hf : src.view.read (Elt F) f = X)
    (g : Buf (Elt F) (dst.view.loc (c : Thread nD τ))) :
    (Flight EC (c : Thread nD τ) (.dma q) () dst.view.dmaCredit iprop((dst.view.loc (c : Thread nD τ) ↦[dst.view.set]{fullShare} (dst.view.write (Elt F) g (src.view.read (Elt F) f) Finset.univ))
      ∗ (src.view.loc (c : Thread nD τ) ↦[src.view.set]{sh₁} f)) : sProp 𝕄) ⊢ Fl c q src dst sh₁ X := by
  refine Flight_mono EC (c : Thread nD τ) (BIClass.sep_mono ?_ ?_)
  · refine (owns_intro (c : Thread nD τ) dst fullShare _).trans (Entails.of_eq ?_)
    rw [View.read_write_univ, hf]
  · rw [← hf]; exact owns_intro (c : Thread nD τ) src sh₁ f

omit m in
theorem cpStart {sp sp' : Space} {sh : Shape} {e : EltTy} (q : DmaSem sig) (src : Memref sig .tc sp sh e) (dst : Memref sig .tc sp' sh e)
    {src₀ : Memref sig .tc sp sh e} {dst₀ : Memref sig .tc sp' sh e} {q₀ : DmaSem sig} (hs : src = src₀) (hd : dst = dst₀) (hq : q = q₀)
    {h₁ : src₀.view.WordExact} {h₂ : dst₀.view.WordExact} {h₃ : DmaTarget.Typed (nD := nD) (τ := τ) (p := Proc.tc) sp (.dma q₀) (.here dst₀)}
    {Q : α → sProp 𝕄} {k : PUnit → Prog (TpuEff nD τ sig (Elt F) Λ₀ .tc) α} {sh₁ : PosShare TreeShare} {X Y : sh.Idx → Elt F e} (hn : 0 < sh.numel) :
    iprop(own c src sh₁ X ∗ own c dst fullShare Y ∗ semVal (dC c q) 0)
      ⊢ iprop((Fl c q src dst sh₁ X -∗ WP c (k ⟨⟩) Q) -∗ WP c (.op (.enqueueDma src₀ (.here dst₀) (.dma q₀) h₁ h₂ h₃) k) Q) := by
  subst hs hd hq
  unfold own owns
  iintro ⟨⟨%f, %hf, Hs⟩, ⟨%g, -, Hd⟩, Hv⟩ Hk
  iapply (wp_dmaLocal EC 𝒱₀ (c : Thread nD τ) none (src := src) (via := ReadAs.same) (dst := dst) (sm := .dma q) (hsrc := h₁) (hdst := h₂) (hsem := h₃)
    (q := sh₁) (fs := f) (Sd := dst.view.set) (fd := g) () dst.view.dmaCredit rfl (View.dmaCredit_pos _ hn) subset_rfl) $$ [Hs Hd Hv]
  · isplitl [Hs]; · iexact Hs
    isplitl [Hd] <;> iassumption
  iintro H
  iapply Hk
  iapply (fl_of c q src dst hf g); iexact H

theorem cpWait (n : ℕ) {sp sp' : Space} {sh : Shape} {e : EltTy} (q : DmaSem sig) (src : Memref sig .tc sp sh e) (dst : Memref sig .tc sp' sh e)
    {srcw : Memref sig .tc sp sh e} {dst₀ : Memref sig .tc sp' sh e} {q₀ : DmaSem sig} (hd : dst = dst₀) (hq : q = q₀) (hl : lvS (.dma q) = 0)
    {h₁ : srcw.view.WordExact} {h₂ : dst₀.view.WordExact}
    {Q : α → sProp 𝕄} {k : PUnit → Prog (TpuEff nD τ sig (Elt F) Λ₀ .tc) α} {sh₁ : PosShare TreeShare} {X : sh.Idx → Elt F e} :
    iprop(world m ∗ Fl c q src dst sh₁ X ∗ Ow (F := F) c n)
      ⊢ iprop((iprop(own c dst fullShare X ∗ own c src sh₁ X ∗ semVal (dC c q) 0 ∗ Ow (F := F) c n) -∗ WP c (k ⟨⟩) Q)
        -∗ WP c (.op (.waitDma2 q₀ srcw dst₀ h₁ h₂) k) Q) := by
  subst hd hq
  unfold Fl Ow
  iintro ⟨#Hw, Hf, ⟨%W, HO⟩⟩ Hk
  iapply (wp_waitLocalO EC 𝒱₀ (c : Thread nD τ) none () rfl (O := owe c n) (W := W)) $$ [Hf HO]
  · isplitl [Hf]; · iexact Hf
    isplitl [HO]; · iexact HO
    iapply (mayWait c (.dma q) n fun j _ => by rw [hl]; exact debtL_pos j)
    iapply (world_lev m); iexact Hw
  iintro ⟨⟨Hd, Hs⟩, Hv, HO⟩
  iapply Hk
  isplitl [Hd]; · iexact Hd
  isplitl [Hs]; · iexact Hs
  isplitl [Hv]; · iexact Hv
  iexists _; iexact HO

/-! ## The barrier -/

theorem barSignal (n : ℕ) (d : Dev nD) (i : Fin 3) (hC : debtC c n = barC d) (hA : debtA n = 1)
    {d₀ : Dev nD} {s₀ : Sem sig} {z : ℤ} (hd : d = d₀) (hs : barS = s₀) (hz : z = ((1 : ℕ) : ℤ)) {Q : α → sProp 𝕄} {k : PUnit → Prog (TpuEff nD τ sig (Elt F) Λ₀ .tc) α} :
    iprop(world m ∗ Ow (F := F) c (n + 1) ∗ dutyTok ER (barC d) 0 i ∗ barPay (F := F) d i)
      ⊢ iprop((Ow (F := F) c n -∗ WP c (k ⟨⟩) Q) -∗ WP c (.op (.semSignal (d₀, Proc.tc) s₀ z) k) Q) := by
  subst hd hs hz
  unfold Ow
  iintro ⟨#Hw, ⟨%W, HO⟩, Ht, Hp⟩ Hk
  ihave H := (world_bar m d) $$ Hw
  unfold cellOK
  icases H with ⟨%κ, #HI, #Hr⟩
  iapply (Rounds.wp_signal 𝒱₀ ER (Rd m) (c : Thread nD τ) none (dst := (d : Thread nD τ)) (κ := κ) (d := i)
      (by rw [duties_bar]; exact Finset.mem_univ _) (amount_bar m d i) () (O₀ := owe c (n + 1)) (owe c n)
      (by rw [show owe c (n + 1) = owe c n + tallyAt (debtC c n) () (debtA n) from rfl, hC, hA])) $$ [HO Ht Hp]
  · isplitr; · iexact HI
    isplitl [HO]; · iexact HO
    isplitl [Ht]; · iexact Ht
    isplitl [Hp]; · iapply (Entails.of_eq (payload_bar m d i).symm); iexact Hp
    iexact Hr
  iintro HO
  iapply Hk
  iexists W; iexact HO

theorem barWait {s₀ : Sem sig} {z : ℤ} (hs : barS = s₀) (hz : z = ((3 : ℕ) : ℤ)) {Q : α → sProp 𝕄} {k : PUnit → Prog (TpuEff nD τ sig (Elt F) Λ₀ .tc) α} :
    iprop(world m ∗ cred (tallyAt (barC c) () 3) ∗ Ow (F := F) c 16 ∗ atPos ER (barC c) 0 ∅ 0)
      ⊢ iprop((iprop(barPay (F := F) c 0 ∗ barPay (F := F) c 1 ∗ barPay (F := F) c 2 ∗ semVal (barC c) 0 ∗ Ow (F := F) c 16) -∗ WP c (k ⟨⟩) Q)
        -∗ WP c (.op (.semWait s₀ z) k) Q) := by
  subst hs hz
  unfold Ow
  iintro ⟨#Hw, Hc, ⟨%W, HO⟩, Hat⟩ Hk
  ihave H := (world_bar m c) $$ Hw
  unfold cellOK
  icases H with ⟨%κ, #HI, #Hr⟩
  iapply (Rounds.wp_wait_rest_token 𝒱₀ ER (Rd m) (c : Thread nD τ) none (κ := κ)
      (wpE_semWait_eq 𝒱₀ (c : Thread nD τ) none Set.univ) (Set.mem_univ _) () (O := owe c 16) (W := W) (R := 0) (m := 0) (T := ∅)
      (by rw [expect_bar])) $$ [Hc HO Hat]
  · isplitr; · iexact HI
    isplitl [Hc]; · iexact Hc
    isplitl [HO]; · iexact HO
    isplitr
    · iapply (mayWait c (.reg barS) 16 fun j hj => debtL_bar j hj); iapply (world_lev m); iexact Hw
    iexact Hat
  iintro ⟨HO, Hat, -, Hpay⟩
  ihave Hp := (Entails.of_eq (rest_bar m c)) $$ Hpay
  icases Hp with ⟨H0, H1, H2⟩
  imod (Rounds.cell_close ER (Rd m) (Set.mem_univ κ) (fun h => h) (R := 0 + 1) (duties_later m (barC c))) $$ [Hat] with Hz
  · isplitr; · iexact HI
    iexact Hat
  iapply Hk
  isplitl [H0]; · iexact H0
  isplitl [H1]; · iexact H1
  isplitl [H2]; · iexact H2
  isplitl [Hz]; · iexact Hz
  iexists _; iexact HO

/-! ## Remote copies -/

/-- A tile copied to device `d`: the source share goes into the sending cell's round, the tile written at `d` into the
    receiving cell's. -/
theorem send (n : ℕ) (d : Dev nD) {sp sp' : Space} {sh : Shape} {e : EltTy} (q₁ q₂ : DmaSem sig) (src : Memref sig .tc sp sh e) (dst : Memref sig .tc sp' sh e)
    (b₁ : 6 ≤ q₁.val ∧ q₁.val < 38) (b₂ : 6 ≤ q₂.val ∧ q₂.val < 38) (hN : dst.view.dmaCredit = NT)
    (hC : debtC c n = dC d q₂) (hA : debtA n = NT) {sh₁ : PosShare TreeShare} {X : sh.Idx → Elt F e}
    (hp₁ : (own c src sh₁ X : sProp 𝕄) = (Rd m).payload (dC c q₁) 0 0) (hp₂ : (own d dst fullShare X : sProp 𝕄) = (Rd m).payload (dC d q₂) 0 0)
    {d₀ : Dev nD} {src₀ : Memref sig .tc sp sh e} {dst₀ : Memref sig .tc sp' sh e} {q₁₀ q₂₀ : DmaSem sig}
    (hd : d = d₀) (hs : src = src₀) (hdst : dst = dst₀) (hq₁ : q₁ = q₁₀) (hq₂ : q₂ = q₂₀)
    {hsc : (show Memref sig (Dev.tc d₀ : Thread nD τ).2.kind sp' sh e from dst₀).view.ref.isScScratch = false}
    {h₁ : src₀.view.WordExact} {h₂ : dst₀.view.WordExact}
    {h₃ : DmaTarget.Typed (p := Proc.tc) sp (.dma q₂₀) (.remote (Dev.tc d₀ : Thread nD τ) dst₀ (.dma q₁₀) hsc)}
    {Q : α → sProp 𝕄} {k : PUnit → Prog (TpuEff nD τ sig (Elt F) Λ₀ .tc) α} :
    iprop(world m ∗ own c src sh₁ X ∗ anyT (F := F) d dst ∗ Ow (F := F) c (n + 1) ∗ dutyTok ER (dC c q₁) 0 0 ∗ dutyTok ER (dC d q₂) 0 0)
      ⊢ iprop((iprop(cred (tallyAt (dC c q₁) () NT) ∗ Ow (F := F) c n) -∗ WP c (k ⟨⟩) Q)
        -∗ WP c (.op (.enqueueDma src₀ (.remote (Dev.tc d₀ : Thread nD τ) dst₀ (.dma q₁₀) hsc) (.dma q₂₀) h₁ h₂ h₃) k) Q) := by
  subst hd hs hdst hq₁ hq₂
  unfold Ow anyT
  iintro ⟨#Hw, Hs, ⟨%Y, Hd⟩, ⟨%W, HO⟩, Ht₁, Ht₂⟩ Hk
  ihave H₁ := (world_dma m c q₁ b₁) $$ Hw
  ihave H₂ := (world_dma m d q₂ b₂) $$ Hw
  unfold cellOK
  icases H₁ with ⟨%κ₁, #HI₁, #Hr₁⟩
  icases H₂ with ⟨%κ₂, #HI₂, #Hr₂⟩
  ihave Hs := (show (own c src sh₁ X : sProp 𝕄) ⊢ iprop(∃ f, ⌜src.view.read (Elt F) f = X⌝ ∗ (src.view.loc (c : Thread nD τ) ↦[src.view.set]{sh₁} f)) from .rfl) $$ Hs
  ihave Hd := (show (own d dst fullShare Y : sProp 𝕄) ⊢ iprop(∃ f, ⌜dst.view.read (Elt F) f = Y⌝ ∗ (dst.view.loc (d : Thread nD τ) ↦[dst.view.set]{fullShare} f)) from .rfl) $$ Hd
  icases Hs with ⟨%f, %hf, Hs⟩
  icases Hd with ⟨%g, -, Hd⟩
  iapply (Rounds.wp_send_pointsTo 𝒱₀ ER (Rd m) (c : Thread nD τ) none (c' := (d : Thread nD τ)) (sS := .dma q₁) (sem := .dma q₂) (κ₁ := κ₁) (κ₂ := κ₂) (src := src) (dst := dst)
    (r₁ := 0) (r₂ := 0) (d₁ := 0) (d₂ := 0) (fs := f) (fd := g)
    (by rw [duties_dma m c q₁ b₁]; exact Finset.mem_singleton_self _) (by rw [duties_dma m d q₂ b₂]; exact Finset.mem_singleton_self _)
    () () NT hN (amount_dma m c q₁ 0) (amount_dma m d q₂ 0) (O₀ := owe c (n + 1)) (owe c n)
    (by rw [show owe c (n + 1) = owe c n + tallyAt (debtC c n) () (debtA n) from rfl, hC, hA]) (W := W)
    (by rw [← hp₁, ← hf]; exact owns_intro (c : Thread nD τ) src sh₁ f)
    (by
      rw [← hp₂]
      refine (owns_intro (d : Thread nD τ) dst fullShare _).trans (Entails.of_eq ?_)
      rw [View.read_write_univ, hf])) $$ [Hs Hd HO Ht₁ Ht₂]
  · isplitr; · iexact HI₁
    isplitr; · iexact HI₂
    isplitl [Hs]; · iexact Hs
    isplitl [Hd]; · iexact Hd
    isplitl [HO]; · iexact HO
    isplitl [Ht₁]; · iexact Ht₁
    isplitr; · iexact Hr₁
    isplitl [Ht₂]; · iexact Ht₂
    iexact Hr₂
  iintro ⟨Hc, HO⟩
  iapply Hk
  isplitl [Hc]; · iexact Hc
  iexists W; iexact HO

/-- A one-copy cell awaited: its payload, and its counter at zero again. -/
theorem recv (n : ℕ) (q : DmaSem sig) (b : 6 ≤ q.val ∧ q.val < 38) (hl : ∀ j, j < n → lvS (.dma q) < debtL j)
    {P : sProp 𝕄} (hP : (Rd m).payload (dC c q) 0 0 = P)
    {sp sp' : Space} {sh : Shape} {e : EltTy} {srcw : Memref sig .tc sp sh e} {dst₀ : Memref sig .tc sp' sh e} {q₀ : DmaSem sig}
    (hq : q = q₀) (hN : dst₀.view.dmaCredit = NT) {h₁ : srcw.view.WordExact} {h₂ : dst₀.view.WordExact}
    {Q : α → sProp 𝕄} {k : PUnit → Prog (TpuEff nD τ sig (Elt F) Λ₀ .tc) α} :
    iprop(world m ∗ cred (tallyAt (dC c q) () NT) ∗ Ow (F := F) c n ∗ atPos ER (dC c q) 0 ∅ 0)
      ⊢ iprop((iprop(P ∗ semVal (dC c q) 0 ∗ Ow (F := F) c n) -∗ WP c (k ⟨⟩) Q)
        -∗ WP c (.op (.waitDma2 q₀ srcw dst₀ h₁ h₂) k) Q) := by
  subst hq hP
  unfold Ow
  iintro ⟨#Hw, Hc, ⟨%W, HO⟩, Hat⟩ Hk
  ihave H := (world_dma m c q b) $$ Hw
  unfold cellOK
  icases H with ⟨%κ, #HI, #Hr⟩
  iapply (Rounds.wp_wait_rest_token 𝒱₀ ER (Rd m) (c : Thread nD τ) none (κ := κ) (k' := NT)
      (fun K => by rw [← hN]; exact wpE_waitDma2_eq 𝒱₀ (c : Thread nD τ) none Set.univ K) (Set.mem_univ _) () (O := owe c n) (W := W) (R := 0) (m := 0) (T := ∅)
      (by rw [Nat.zero_add, expect_dma m c q b])) $$ [Hc HO Hat]
  · isplitr; · iexact HI
    isplitl [Hc]; · iexact Hc
    isplitl [HO]; · iexact HO
    isplitr
    · iapply (mayWait c (.dma q) n hl); iapply (world_lev m); iexact Hw
    iexact Hat
  iintro ⟨HO, Hat, -, Hpay⟩
  ihave Hp := (Entails.of_eq (rest_dma m c q b)) $$ Hpay
  imod (Rounds.cell_close ER (Rd m) (Set.mem_univ κ) (fun h => h) (R := 0 + 1) (duties_later m (dC c q))) $$ [Hat] with Hz
  · isplitr; · iexact HI
    iexact Hat
  iapply Hk
  isplitl [Hp]; · iexact Hp
  isplitl [Hz]; · iexact Hz
  iexists _; iexact HO

end Ops

/-! ## Contents that do not matter -/

section Any
variable (c : Dev nD) {α : Type}

omit m in
theorem toAny {sp : Space} {sh : Shape} {e : EltTy} {t : Memref sig .tc sp sh e} {X : sh.Idx → Elt F e} :
    own c t fullShare X ⊢ anyT (F := F) c t := by
  unfold anyT; iintro H; iexists X; iexact H

omit m in
/-- A load whose value nothing uses. -/
theorem ldA {sp : CoreSpace} {s : Shape} {e : EltTy} {M : Memref sig .tc sp s e} {r : Rect s} {hr : ∀ a, r.stride a = 1}
    (t : Memref sig .tc sp r.shape e) (ht : t = M.slice r hr)
    {hl : M.view.LoadsAt r.toLoadRect} {Q : α → sProp 𝕄} {k : (r.shape.Idx → Elt F e) → Prog (TpuEff nD τ sig (Elt F) Λ₀ .tc) α} :
    anyT (F := F) c t ⊢ iprop((∀ X, anyT (F := F) c t -∗ WP c (k X) Q) -∗ WP c (.op (.load M r.toLoadRect hl) k) Q) := by
  unfold anyT
  iintro ⟨%X, H⟩ Hk
  iapply (ld c t ht) $$ H
  iintro H
  iapply Hk
  iexists X; iexact H

omit m in
theorem stA {sp : CoreSpace} {s : Shape} {e : EltTy} {M : Memref sig .tc sp s e} {r : Rect s} {hr : ∀ a, r.stride a = 1}
    (t : Memref sig .tc sp r.shape e) (ht : t = M.slice r hr) {w : r.shape.Idx → Elt F e} (w' : r.shape.Idx → Elt F e) (hw : w' = w)
    {hx : (M.access r).Stores Finset.univ} {hm : Finset.univ = Finset.univ ∨ ∀ a, r.stride a = 1}
    {Q : α → sProp 𝕄} {k : PUnit → Prog (TpuEff nD τ sig (Elt F) Λ₀ .tc) α} :
    anyT (F := F) c t ⊢ iprop((own c t fullShare w' -∗ WP c (k ⟨⟩) Q) -∗ WP c (.op (.store M r w Finset.univ hx hm) k) Q) := by
  subst hw
  unfold anyT
  iintro ⟨%X, H⟩ Hk
  iapply (st c t ht) $$ H
  iexact Hk

omit m in
theorem cpStartA {sp sp' : Space} {sh : Shape} {e : EltTy} (q : DmaSem sig) (src : Memref sig .tc sp sh e) (dst : Memref sig .tc sp' sh e)
    {src₀ : Memref sig .tc sp sh e} {dst₀ : Memref sig .tc sp' sh e} {q₀ : DmaSem sig} (hs : src = src₀) (hd : dst = dst₀) (hq : q = q₀)
    {h₁ : src₀.view.WordExact} {h₂ : dst₀.view.WordExact} {h₃ : DmaTarget.Typed (nD := nD) (τ := τ) (p := Proc.tc) sp (.dma q₀) (.here dst₀)}
    {Q : α → sProp 𝕄} {k : PUnit → Prog (TpuEff nD τ sig (Elt F) Λ₀ .tc) α} {sh₁ : PosShare TreeShare} {X : sh.Idx → Elt F e} (hn : 0 < sh.numel) :
    iprop(own c src sh₁ X ∗ anyT (F := F) c dst ∗ semVal (dC c q) 0)
      ⊢ iprop((Fl c q src dst sh₁ X -∗ WP c (k ⟨⟩) Q) -∗ WP c (.op (.enqueueDma src₀ (.here dst₀) (.dma q₀) h₁ h₂ h₃) k) Q) := by
  unfold anyT
  iintro ⟨Hs, ⟨%Y, Hd⟩, Hv⟩ Hk
  iapply (cpStart c q src dst hs hd hq hn) $$ [Hs Hd Hv]
  · isplitl [Hs]; · iexact Hs
    isplitl [Hd] <;> iassumption
  iexact Hk

end Any

/-! ## The two exchanges' copies and cells -/

section Exch
variable (c : Dev nD) {α : Type}

theorem debtC_z (k : Fin 8) (n : ℕ) (hn : n + k.val = 15) : debtC c n = dC (zp c) (zrS k) := by
  unfold debtC
  have e : Fin.ofNat 8 (15 - n) = k := Fin.ext (by show (15 - n) % 8 = k.val; omega)
  rw [if_neg (by omega), if_pos (by omega), e]
theorem debtC_x (j : Fin 8) (n : ℕ) (hn : n + j.val = 7) : debtC c n = dC (nb j c) (xrS j) := by
  unfold debtC
  have e : Fin.ofNat 8 (7 - n) = j := Fin.ext (by show (7 - n) % 8 = j.val; omega)
  rw [if_pos (by omega), e]

/-- Product tile `k` sent across. -/
theorem zSend (k : Fin 8) (n : ℕ) (hn : n + k.val = 15)
    {d₀ : Dev nD} {src₀ : Memref sig .tc .vmem S256x256 .bf16} {dst₀ : Memref sig .tc .vmem S256x256 .bf16} {q₁₀ q₂₀ : DmaSem sig}
    (hd : zp c = d₀) (hs : sT k = src₀) (hdst : rT k = dst₀) (hq₁ : zsS k = q₁₀) (hq₂ : zrS k = q₂₀)
    {hsc : (show Memref sig (Dev.tc d₀ : Thread nD τ).2.kind .vmem S256x256 .bf16 from dst₀).view.ref.isScScratch = false}
    {h₁ : src₀.view.WordExact} {h₂ : dst₀.view.WordExact}
    {h₃ : DmaTarget.Typed (p := Proc.tc) .vmem (.dma q₂₀) (.remote (Dev.tc d₀ : Thread nD τ) dst₀ (.dma q₁₀) hsc)}
    {Q : α → sProp 𝕄} {kk : PUnit → Prog (TpuEff nD τ sig (Elt F) Λ₀ .tc) α} :
    iprop(world m ∗ own c (sT k) fullShare.left (sV m c k) ∗ anyT (F := F) (zp c) (rT k) ∗ Ow (F := F) c (n + 1)
        ∗ dutyTok ER (dC c (zsS k)) 0 0 ∗ dutyTok ER (dC (zp c) (zrS k)) 0 0)
      ⊢ iprop((iprop(cred (tallyAt (dC c (zsS k)) () NT) ∗ Ow (F := F) c n) -∗ WP c (kk ⟨⟩) Q)
        -∗ WP c (.op (.enqueueDma src₀ (.remote (Dev.tc d₀ : Thread nD τ) dst₀ (.dma q₁₀) hsc) (.dma q₂₀) h₁ h₂ h₃) kk) Q) :=
  send m c n (zp c) (zsS k) (zrS k) (sT k) (rT k) ⟨by show 6 ≤ 6 + k.val; omega, by show 6 + k.val < 38; omega⟩
    ⟨by show 6 ≤ 14 + k.val; omega, by show 14 + k.val < 38; omega⟩ (credit_r k) (debtC_z c k n hn) (if_pos (by omega))
    (payload_zs m c k 0).symm (by rw [payload_zr]; unfold zrPay; rw [zp_zp]) hd hs hdst hq₁ hq₂

/-- Sum tile `kOf j` sent to a neighbour. -/
theorem xSend (j : Fin 8) (n : ℕ) (hn : n + j.val = 7)
    {d₀ : Dev nD} {src₀ : Memref sig .tc .vmem S256x256 .bf16} {dst₀ : Memref sig .tc .vmem S256x256 .bf16} {q₁₀ q₂₀ : DmaSem sig}
    (hd : nb j c = d₀) (hs : oT 0 (kOf j) = src₀) (hdst : oT (rOf j) (kOf j) = dst₀) (hq₁ : xsS j = q₁₀) (hq₂ : xrS j = q₂₀)
    {hsc : (show Memref sig (Dev.tc d₀ : Thread nD τ).2.kind .vmem S256x256 .bf16 from dst₀).view.ref.isScScratch = false}
    {h₁ : src₀.view.WordExact} {h₂ : dst₀.view.WordExact}
    {h₃ : DmaTarget.Typed (p := Proc.tc) .vmem (.dma q₂₀) (.remote (Dev.tc d₀ : Thread nD τ) dst₀ (.dma q₁₀) hsc)}
    {Q : α → sProp 𝕄} {kk : PUnit → Prog (TpuEff nD τ sig (Elt F) Λ₀ .tc) α} :
    iprop(world m ∗ own c (oT 0 (kOf j)) (xsh j) (oV m c (kOf j)) ∗ anyT (F := F) (nb j c) (oT (rOf j) (kOf j)) ∗ Ow (F := F) c (n + 1)
        ∗ dutyTok ER (dC c (xsS j)) 0 0 ∗ dutyTok ER (dC (nb j c) (xrS j)) 0 0)
      ⊢ iprop((iprop(cred (tallyAt (dC c (xsS j)) () NT) ∗ Ow (F := F) c n) -∗ WP c (kk ⟨⟩) Q)
        -∗ WP c (.op (.enqueueDma src₀ (.remote (Dev.tc d₀ : Thread nD τ) dst₀ (.dma q₁₀) hsc) (.dma q₂₀) h₁ h₂ h₃) kk) Q) :=
  send m c n (nb j c) (xsS j) (xrS j) (oT 0 (kOf j)) (oT (rOf j) (kOf j)) ⟨by show 6 ≤ 22 + j.val; omega, by show 22 + j.val < 38; omega⟩
    ⟨by show 6 ≤ 30 + j.val; omega, by show 30 + j.val < 38; omega⟩ (credit_o _ _) (debtC_x c j n hn) (if_pos (by omega))
    (payload_xs m c j 0).symm (by rw [payload_xr]; unfold xrPay; rw [nb_nb]) hd hs hdst hq₁ hq₂

theorem lv_zr (k : Fin 8) (n : ℕ) (h : n ≤ 8) (j : ℕ) (hj : j < n) : lvS (.dma (zrS k)) < debtL j := by
  have : lvS (.dma (zrS k)) = 2 := if_pos ⟨by show 14 ≤ 14 + k.val; omega, by show 14 + k.val < 22; omega⟩
  rw [this]; exact debtL_zr j (by omega)
theorem lv_none (q : DmaSem sig) (j : ℕ) (hj : j < 0) : lvS (.dma q) < debtL j := absurd hj (Nat.not_lt_zero j)

theorem zRecv (k : Fin 8) (n : ℕ) (h : n ≤ 8)
    {sp sp' : Space} {sh : Shape} {e : EltTy} {srcw : Memref sig .tc sp sh e} {dst₀ : Memref sig .tc sp' sh e} {q₀ : DmaSem sig}
    (hq : zrS k = q₀) (hN : dst₀.view.dmaCredit = NT) {h₁ : srcw.view.WordExact} {h₂ : dst₀.view.WordExact}
    {Q : α → sProp 𝕄} {kk : PUnit → Prog (TpuEff nD τ sig (Elt F) Λ₀ .tc) α} :
    iprop(world m ∗ cred (tallyAt (dC c (zrS k)) () NT) ∗ Ow (F := F) c n ∗ atPos ER (dC c (zrS k)) 0 ∅ 0)
      ⊢ iprop((iprop(own c (rT k) fullShare (sV m (zp c) k) ∗ semVal (dC c (zrS k)) 0 ∗ Ow (F := F) c n) -∗ WP c (kk ⟨⟩) Q)
        -∗ WP c (.op (.waitDma2 q₀ srcw dst₀ h₁ h₂) kk) Q) :=
  recv m c n (zrS k) ⟨by show 6 ≤ 14 + k.val; omega, by show 14 + k.val < 38; omega⟩ (lv_zr k n h) (payload_zr m c k 0) hq hN
theorem xRecv (k : Fin 8) (r : Fin 3) (t : Fin 4) (d : Dev nD) (hr : rOf k = r) (ht : kOf k = t) (hd : nb k c = d)
    {sp sp' : Space} {sh : Shape} {e : EltTy} {srcw : Memref sig .tc sp sh e} {dst₀ : Memref sig .tc sp' sh e} {q₀ : DmaSem sig}
    (hq : xrS k = q₀) (hN : dst₀.view.dmaCredit = NT) {h₁ : srcw.view.WordExact} {h₂ : dst₀.view.WordExact}
    {Q : α → sProp 𝕄} {kk : PUnit → Prog (TpuEff nD τ sig (Elt F) Λ₀ .tc) α} :
    iprop(world m ∗ cred (tallyAt (dC c (xrS k)) () NT) ∗ Ow (F := F) c 0 ∗ atPos ER (dC c (xrS k)) 0 ∅ 0)
      ⊢ iprop((iprop(own c (oT r t) fullShare (oV m d t) ∗ semVal (dC c (xrS k)) 0 ∗ Ow (F := F) c 0) -∗ WP c (kk ⟨⟩) Q)
        -∗ WP c (.op (.waitDma2 q₀ srcw dst₀ h₁ h₂) kk) Q) :=
  recv m c 0 (xrS k) ⟨by show 6 ≤ 30 + k.val; omega, by show 30 + k.val < 38; omega⟩ (lv_none _) (by subst hr ht hd; exact payload_xr m c k 0) hq hN
theorem zsWait (k : Fin 8)
    {sp sp' : Space} {sh : Shape} {e : EltTy} {srcw : Memref sig .tc sp sh e} {dst₀ : Memref sig .tc sp' sh e} {q₀ : DmaSem sig}
    (hq : zsS k = q₀) (hN : dst₀.view.dmaCredit = NT) {h₁ : srcw.view.WordExact} {h₂ : dst₀.view.WordExact}
    {Q : α → sProp 𝕄} {kk : PUnit → Prog (TpuEff nD τ sig (Elt F) Λ₀ .tc) α} :
    iprop(world m ∗ cred (tallyAt (dC c (zsS k)) () NT) ∗ Ow (F := F) c 0 ∗ atPos ER (dC c (zsS k)) 0 ∅ 0)
      ⊢ iprop((iprop(own c (sT k) fullShare.left (sV m c k) ∗ semVal (dC c (zsS k)) 0 ∗ Ow (F := F) c 0) -∗ WP c (kk ⟨⟩) Q)
        -∗ WP c (.op (.waitDma2 q₀ srcw dst₀ h₁ h₂) kk) Q) :=
  recv m c 0 (zsS k) ⟨by show 6 ≤ 6 + k.val; omega, by show 6 + k.val < 38; omega⟩ (lv_none _) (payload_zs m c k 0) hq hN
theorem xsWait (k : Fin 8)
    {sp sp' : Space} {sh : Shape} {e : EltTy} {srcw : Memref sig .tc sp sh e} {dst₀ : Memref sig .tc sp' sh e} {q₀ : DmaSem sig}
    (hq : xsS k = q₀) (hN : dst₀.view.dmaCredit = NT) {h₁ : srcw.view.WordExact} {h₂ : dst₀.view.WordExact}
    {Q : α → sProp 𝕄} {kk : PUnit → Prog (TpuEff nD τ sig (Elt F) Λ₀ .tc) α} :
    iprop(world m ∗ cred (tallyAt (dC c (xsS k)) () NT) ∗ Ow (F := F) c 0 ∗ atPos ER (dC c (xsS k)) 0 ∅ 0)
      ⊢ iprop((iprop(own c (oT 0 (kOf k)) (xsh k) (oV m c (kOf k)) ∗ semVal (dC c (xsS k)) 0 ∗ Ow (F := F) c 0) -∗ WP c (kk ⟨⟩) Q)
        -∗ WP c (.op (.waitDma2 q₀ srcw dst₀ h₁ h₂) kk) Q) :=
  recv m c 0 (xsS k) ⟨by show 6 ≤ 22 + k.val; omega, by show 22 + k.val < 38; omega⟩ (lv_none _) (payload_xs m c k 0) hq hN

/-- The three shares of a sum tile. -/
theorem oSplit (k : Fin 4) (X : S256x256.Idx → Elt F .bf16) : own c (oT 0 k) fullShare X
    ⊣⊢ iprop(own c (oT 0 k) fullShare.left X ∗ own c (oT 0 k) fullShare.right.left X ∗ own c (oT 0 k) fullShare.right.right X) := by
  constructor
  · iintro H
    ihave H := (owns_halves (c : Thread nD τ) (oT 0 k) fullShare X).1 $$ H
    icases H with ⟨Ha, H⟩
    ihave H := (owns_halves (c : Thread nD τ) (oT 0 k) fullShare.right X).1 $$ H
    isplitl [Ha]; · iexact Ha
    iexact H
  · iintro ⟨Ha, H⟩
    iapply (owns_halves (c : Thread nD τ) (oT 0 k) fullShare X).2
    isplitl [Ha]; · iexact Ha
    iapply (owns_halves (c : Thread nD τ) (oT 0 k) fullShare.right X).2; iexact H

/-- A copied-in row block, as the loads see it. -/
theorem ySq (i : Fin 2) (X : Vec F S256x4096 .f32) : own c (yqT i) fullShare X ⊢ own c (yT i) fullShare (shapeCast S1x256x4096 X casts1) := by
  unfold own owns
  iintro ⟨%f, %hf, H⟩
  iexists f
  isplitr
  · ipureintro
    rw [← hf]
    exact (shapeCast_shapeCast ((yT i).view.read (Elt F) f) _ casts1).symm
  iapply (Entails.of_eq (show ((yqT i).view.loc (c : Thread nD τ) ↦[(yqT i).view.set]{fullShare} f : sProp 𝕄) = ((yT i).view.loc (c : Thread nD τ) ↦[(yT i).view.set]{fullShare} f) from
    congrArg (fun S => ((yT i).view.loc (c : Thread nD τ) ↦[S]{fullShare} f : sProp 𝕄)) (View.set_reshape _ _)))
  iexact H

theorem yRow (i : Fin 2) (t : Fin 4) (ht : i.castLE (by decide) = t) : own c (yqT i) fullShare (dyV m c t) ⊢ own c (yT i) fullShare (y1V m c i) := by
  subst ht; exact ySq c i _

theorem wpRet {a : α} {Q : α → sProp 𝕄} : Q a ⊢ WP (F := F) c (.ret a) Q := by
  show Q a ⊢ wp _ _ _ _ _
  rw [wp_ret]; iintro H; imodintro; iexact H

end Exch

/-! ## The places the body names -/

theorem zp_at (c : Dev nD) {n : ℕ} {h : n < nD} (e : n = (4 * (c.val / 4) + 2 * ((c.val / 2) % 2) + 1) - (c.val % 2)) : zp c = ⟨n, h⟩ := Fin.ext e.symm
theorem xn_at (c : Dev nD) {n : ℕ} {h : n < nD} (e : n = (2 * ((c.val / 2) % 2) + (c.val % 2) + 4) - 4 * (c.val / 4)) : xn c = ⟨n, h⟩ := Fin.ext e.symm
theorem yn_at (c : Dev nD) {n : ℕ} {h : n < nD} (e : n = (4 * (c.val / 4) + (c.val % 2) + 2) - 2 * ((c.val / 2) % 2)) : yn c = ⟨n, h⟩ := Fin.ext e.symm
theorem nb_even (j : Fin 8) (c : Dev nD) (h : j.val % 2 = 0) : nb j c = xn c := if_pos h
theorem nb_odd (j : Fin 8) (c : Dev nD) (h : j.val % 2 = 1) : nb j c = yn c := if_neg (by omega)
theorem dT_at (c : Dev nD) (t : Fin 4) {off : Fin 2 → ℕ} {h : ∀ i, off i + S256x4096.size i ≤ S1024x4096.size i} {hr} (e : off = ![rowOff c t, 0]) :
    dT c t = (Memref.whole main_arg0).slice (Rect.unit (s := S1024x4096) off S256x4096.size h) hr := by subst e; rfl
theorem gT_at (c : Dev nD) (t k : Fin 4) {off : Fin 2 → ℕ} {h : ∀ i, off i + S256x256.size i ≤ S1024x1024.size i} {hr} (e : off = ![rowOff c t, 256 * k.val]) :
    gT c t k = (Memref.whole cc0_scratch7).slice (Rect.unit (s := S1024x1024) off S256x256.size h) hr := by subst e; rfl
theorem uT_at (c : Dev nD) (t k : Fin 4) {off : Fin 2 → ℕ} {h : ∀ i, off i + S256x256.size i ≤ S1024x1024.size i} {hr} (e : off = ![rowOff c t, 256 * k.val]) :
    uT c t k = (Memref.whole main_v1).slice (Rect.unit (s := S1024x1024) off S256x256.size h) hr := by subst e; rfl
theorem off19_2 : ∀ c : Dev nD, k0_off19 c 2#32 = ![rowOff c 2, 0] := by decide +kernel
theorem off19_3 : ∀ c : Dev nD, k0_off19 c 1#32 = ![rowOff c 3, 0] := by decide +kernel
theorem off20_2 : ∀ c : Dev nD, k0_off20 c 2#32 = ![rowOff c 2, 0] := by decide +kernel
theorem off20_3 : ∀ c : Dev nD, k0_off20 c 1#32 = ![rowOff c 3, 0] := by decide +kernel
theorem off21_2 : ∀ c : Dev nD, k0_off21 c 2#32 = ![rowOff c 2, 256] := by decide +kernel
theorem off21_3 : ∀ c : Dev nD, k0_off21 c 1#32 = ![rowOff c 3, 256] := by decide +kernel
theorem off22_2 : ∀ c : Dev nD, k0_off22 c 2#32 = ![rowOff c 2, 256] := by decide +kernel
theorem off22_3 : ∀ c : Dev nD, k0_off22 c 1#32 = ![rowOff c 3, 256] := by decide +kernel
theorem off23_2 : ∀ c : Dev nD, k0_off23 c 2#32 = ![rowOff c 2, 512] := by decide +kernel
theorem off23_3 : ∀ c : Dev nD, k0_off23 c 1#32 = ![rowOff c 3, 512] := by decide +kernel
theorem off24_2 : ∀ c : Dev nD, k0_off24 c 2#32 = ![rowOff c 2, 512] := by decide +kernel
theorem off24_3 : ∀ c : Dev nD, k0_off24 c 1#32 = ![rowOff c 3, 512] := by decide +kernel
theorem off25_2 : ∀ c : Dev nD, k0_off25 c 2#32 = ![rowOff c 2, 768] := by decide +kernel
theorem off25_3 : ∀ c : Dev nD, k0_off25 c 1#32 = ![rowOff c 3, 768] := by decide +kernel
theorem off26_2 : ∀ c : Dev nD, k0_off26 c 2#32 = ![rowOff c 2, 768] := by decide +kernel
theorem off26_3 : ∀ c : Dev nD, k0_off26 c 1#32 = ![rowOff c 3, 768] := by decide +kernel

end Cert.CubeProof

end
-- ==== Proof.PartsA.lean ====
/-
# The body's stretches: the copies in, the barrier, the eight products and their sends

The run is printed in consecutive stretches; each lemma says what one of them takes and leaves.
-/
module

public import proofs.«01_k».proof.Proof.Steps

@[expose] public section

noncomputable section

namespace Cert.CubeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (c : Dev nD)

theorem part1 {Q : (Σ' (_ : Dev nD) (_ : BitVec 32) (_ : BitVec 32) (_ : BitVec 32) (_ : BitVec 32) (_ : BitVec 32) (_ : BitVec 32) (_ : BitVec 32) (_ : BitVec 32), BitVec 32) → sProp 𝕄} :
    iprop(world m ∗
      anyT (F := F) c (yqT 0) ∗ own c (dT c 0) fullShare (dyV m c 0) ∗ semVal (dC c (cpS 0)) 0 ∗ anyT (F := F) c (fT 0)
      ∗ own c (wT 0) fullShare (wV m c 0) ∗ semVal (dC c (cpS 2)) 0)
      ⊢ iprop((∀ v2 v5 v8 v10 v11 v13 v14 v15 v16,
        Fl c (cpS 0) (dT c 0) (yqT 0) fullShare (dyV m c 0) ∗ Fl c (cpS 2) (wT 0) (fT 0) fullShare (wV m c 0)
        -∗ Q ⟨c, v2, v5, v8, v10, v11, v13, v14, v15, v16⟩)
        -∗ WP c (k0_part1_skel (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13) Q) := by
  unfold k0_part1_skel
  simp only [semSignalWord, semWaitWord, Prog.lift, Prog.bind_op, Prog.bind_ret, Prog.pure_eq_ret, wp_deviceId]
  iintro ⟨#Hw, Y0, D0, vc0, F0, W0, vc2⟩ HK
  iapply (cpStartA c (cpS 0) (dT c 0) (yqT 0) (dT_at c 0 (k0_off1_eq c)) rfl rfl (by decide)) $$ [D0 Y0 vc0]
  · isplitl [D0]; · iexact D0
    isplitl [Y0]; · iexact Y0
    iexact vc0
  iintro fy0
  iapply (cpStartA c (cpS 2) (wT 0) (fT 0) rfl rfl rfl (by decide)) $$ [W0 F0 vc2]
  · isplitl [W0]; · iexact W0
    isplitl [F0]; · iexact F0
    iexact vc2
  iintro ff0
  iapply (wpRet c)
  iapply HK
  isplitl [fy0]; · iexact fy0
  iexact ff0

theorem part2 (v2 v5 v8 v14 v15 : BitVec 32) {Q : (Σ' (_ : Sems sig S_), BitVec 32) → sProp 𝕄} :
    iprop(world m ∗
      anyT (F := F) c (fT 1) ∗ own c (wT 1) fullShare (wV m c 1) ∗ semVal (dC c (cpS 3)) 0 ∗ anyT (F := F) c (fT 2)
      ∗ own c (wT 2) fullShare (wV m c 2) ∗ semVal (dC c (cpS 4)) 0 ∗ anyT (F := F) c (fT 3) ∗ own c (wT 3) fullShare (wV m c 3)
      ∗ semVal (dC c (cpS 5)) 0 ∗ anyT (F := F) c (yqT 1) ∗ own c (dT c 1) fullShare (dyV m c 1) ∗ semVal (dC c (cpS 1)) 0 ∗ Ow (F := F) c 19
      ∗ dutyTok ER (barC (zp c)) 0 0 ∗ barPay (F := F) (zp c) 0 ∗ dutyTok ER (barC (xn c)) 0 1 ∗ barPay (F := F) (xn c) 1)
      ⊢ iprop((
        Fl c (cpS 3) (wT 1) (fT 1) fullShare (wV m c 1) ∗ Fl c (cpS 4) (wT 2) (fT 2) fullShare (wV m c 2)
        ∗ Fl c (cpS 5) (wT 3) (fT 3) fullShare (wV m c 3) ∗ Fl c (cpS 1) (dT c 1) (yqT 1) fullShare (dyV m c 1) ∗ Ow (F := F) c 17
        -∗ Q ⟨(SemArray.scalar (sig.barrier 0 rfl)), 4#32⟩)
        -∗ WP c (k0_part2_skel (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 c v2 v5 v8 v14 v15) Q) := by
  unfold k0_part2_skel
  simp only [semSignalWord, semWaitWord, Prog.lift, Prog.bind_op, Prog.bind_ret, Prog.pure_eq_ret, wp_deviceId]
  iintro ⟨#Hw, F1, W1, vc3, F2, W2, vc4, F3, W3, vc5, Y1, D1, vc1, Ow, tb0, Pz, tb1, Px⟩ HK
  iapply (cpStartA c (cpS 3) (wT 1) (fT 1) rfl rfl rfl (by decide)) $$ [W1 F1 vc3]
  · isplitl [W1]; · iexact W1
    isplitl [F1]; · iexact F1
    iexact vc3
  iintro ff1
  iapply (cpStartA c (cpS 4) (wT 2) (fT 2) rfl rfl rfl (by decide)) $$ [W2 F2 vc4]
  · isplitl [W2]; · iexact W2
    isplitl [F2]; · iexact F2
    iexact vc4
  iintro ff2
  iapply (cpStartA c (cpS 5) (wT 3) (fT 3) rfl rfl rfl (by decide)) $$ [W3 F3 vc5]
  · isplitl [W3]; · iexact W3
    isplitl [F3]; · iexact F3
    iexact vc5
  iintro ff3
  iapply (cpStartA c (cpS 1) (dT c 1) (yqT 1) (dT_at c 1 (k0_off2_eq c)) rfl rfl (by decide)) $$ [D1 Y1 vc1]
  · isplitl [D1]; · iexact D1
    isplitl [Y1]; · iexact Y1
    iexact vc1
  iintro fy1
  iapply (barSignal m c 18 (zp c) 0 rfl rfl (zp_at c (k0_dev1_eq c)) rfl rfl) $$ [Ow tb0 Pz]
  · isplitr; · iexact Hw
    isplitl [Ow]; · iexact Ow
    isplitl [tb0]; · iexact tb0
    iexact Pz
  iintro Ow
  iapply (barSignal m c 17 (xn c) 1 rfl rfl (xn_at c (k0_dev2_eq c)) rfl rfl) $$ [Ow tb1 Px]
  · isplitr; · iexact Hw
    isplitl [Ow]; · iexact Ow
    isplitl [tb1]; · iexact tb1
    iexact Px
  iintro Ow
  iapply (wpRet c)
  iapply HK
  isplitl [ff1]; · iexact ff1
  isplitl [ff2]; · iexact ff2
  isplitl [ff3]; · iexact ff3
  isplitl [fy1]; · iexact fy1
  iexact Ow

theorem part3 (v2 v8 v16 c4 : BitVec 32) {Q : (PUnit) → sProp 𝕄} :
    iprop(world m ∗
      Ow (F := F) c 17 ∗ dutyTok ER (barC (yn c)) 0 2 ∗ barPay (F := F) (yn c) 2 ∗ cred (tallyAt (barC c) () 3) ∗ atPos ER (barC c) 0 ∅ 0
      ∗ Fl c (cpS 0) (dT c 0) (yqT 0) fullShare (dyV m c 0) ∗ anyT (F := F) c (ybT 0) ∗ Fl c (cpS 2) (wT 0) (fT 0) fullShare (wV m c 0)
      ∗ anyT (F := F) c (bT 0))
      ⊢ iprop((
        barPay (F := F) c 0 ∗ barPay (F := F) c 1 ∗ barPay (F := F) c 2 ∗ semVal (barC c) 0 ∗ own c (dT c 0) fullShare (dyV m c 0)
        ∗ semVal (dC c (cpS 0)) 0 ∗ own c (yT 0) fullShare (y1V m c 0) ∗ own c (ybT 0) fullShare (ybV m c 0) ∗ own c (wT 0) fullShare (wV m c 0)
        ∗ semVal (dC c (cpS 2)) 0 ∗ Ow (F := F) c 16 ∗ own c (fT 0) fullShare (wV m c 0) ∗ own c (bT 0) fullShare (bV m c 0)
        -∗ Q ⟨⟩)
        -∗ WP c (k0_part3_skel (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 c v2 v8 v16 (SemArray.scalar (sig.barrier 0 rfl)) c4) Q) := by
  unfold k0_part3_skel
  simp only [semSignalWord, semWaitWord, Prog.lift, Prog.bind_op, Prog.bind_ret, Prog.pure_eq_ret, wp_deviceId]
  iintro ⟨#Hw, Ow, tb2, Py, crb, ab, fy0, B0, ff0, C0⟩ HK
  iapply (barSignal m c 16 (yn c) 2 rfl rfl (yn_at c (k0_dev3_eq c)) rfl rfl) $$ [Ow tb2 Py]
  · isplitr; · iexact Hw
    isplitl [Ow]; · iexact Ow
    isplitl [tb2]; · iexact tb2
    iexact Py
  iintro Ow
  iapply (barWait m c rfl rfl) $$ [crb Ow ab]
  · isplitr; · iexact Hw
    isplitl [crb]; · iexact crb
    isplitl [Ow]; · iexact Ow
    iexact ab
  iintro ⟨P0, P1, P2, vb, Ow⟩
  iapply (cpWait m c 16 (cpS 0) (dT c 0) (yqT 0) rfl rfl rfl) $$ [fy0 Ow]
  · isplitr; · iexact Hw
    isplitl [fy0]; · iexact fy0
    iexact Ow
  iintro ⟨Y0, D0, vc0, Ow⟩
  ihave Y0 := (yRow m c 0 0 rfl) $$ Y0
  iapply (ld c (r := rY 0) (hr := fun _ => rfl) (yT 0) rfl) $$ Y0
  iintro Y0
  iapply (ldA c (r := rY 0) (hr := fun _ => rfl) (ybT 0) rfl) $$ B0
  iintro %_ B0
  iapply (stA c (r := rY 0) (hr := fun _ => rfl) (ybT 0) rfl (ybV m c 0) rfl) $$ B0
  iintro B0
  iapply (cpWait m c 16 (cpS 2) (wT 0) (fT 0) rfl rfl rfl) $$ [ff0 Ow]
  · isplitr; · iexact Hw
    isplitl [ff0]; · iexact ff0
    iexact Ow
  iintro ⟨F0, W0, vc2, Ow⟩
  iapply (ld c (r := rW 0) (hr := fun _ => rfl) (fT 0) rfl) $$ F0
  iintro F0
  iapply (ldA c (r := rW 0) (hr := fun _ => rfl) (bT 0) rfl) $$ C0
  iintro %_ C0
  iapply (stA c (r := rW 0) (hr := fun _ => rfl) (bT 0) rfl (bV m c 0) rfl) $$ C0
  iintro C0
  iapply (wpRet c)
  iapply HK
  isplitl [P0]; · iexact P0
  isplitl [P1]; · iexact P1
  isplitl [P2]; · iexact P2
  isplitl [vb]; · iexact vb
  isplitl [D0]; · iexact D0
  isplitl [vc0]; · iexact vc0
  isplitl [Y0]; · iexact Y0
  isplitl [B0]; · iexact B0
  isplitl [W0]; · iexact W0
  isplitl [vc2]; · iexact vc2
  isplitl [Ow]; · iexact Ow
  isplitl [F0]; · iexact F0
  iexact C0

theorem part4 (v2 v5 v14 : BitVec 32) {Q : (PUnit) → sProp 𝕄} :
    iprop(world m ∗
      own c (ybT 0) fullShare (ybV m c 0) ∗ own c (bT 0) fullShare (bV m c 0) ∗ anyT (F := F) c (sT 0) ∗ Ow (F := F) c 16
      ∗ anyT (F := F) (zp c) (rT 0) ∗ dutyTok ER (dC c (zsS 0)) 0 0 ∗ dutyTok ER (dC (zp c) (zrS 0)) 0 0
      ∗ Fl c (cpS 3) (wT 1) (fT 1) fullShare (wV m c 1) ∗ anyT (F := F) c (bT 1))
      ⊢ iprop((
        own c (ybT 0) fullShare (ybV m c 0) ∗ own c (bT 0) fullShare (bV m c 0) ∗ own c (sT 0) fullShare.right (sV m c 0)
        ∗ cred (tallyAt (dC c (zsS 0)) () NT) ∗ own c (wT 1) fullShare (wV m c 1) ∗ semVal (dC c (cpS 3)) 0 ∗ Ow (F := F) c 15
        ∗ own c (fT 1) fullShare (wV m c 1) ∗ own c (bT 1) fullShare (bV m c 1)
        -∗ Q ⟨⟩)
        -∗ WP c (k0_part4_skel (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 c v2 v5 v14) Q) := by
  unfold k0_part4_skel
  simp only [semSignalWord, semWaitWord, Prog.lift, Prog.bind_op, Prog.bind_ret, Prog.pure_eq_ret, wp_deviceId]
  iintro ⟨#Hw, B0, C0, S0, Ow, R0, ts0, tr0, ff1, C1⟩ HK
  iapply (ld c (r := rY 0) (hr := fun _ => rfl) (ybT 0) rfl) $$ B0
  iintro B0
  iapply (ld c (r := rW 0) (hr := fun _ => rfl) (bT 0) rfl) $$ C0
  iintro C0
  iapply (ldA c (r := rS 0) (hr := fun _ => rfl) (sT 0) rfl) $$ S0
  iintro %_ S0
  iapply (stA c (r := rS 0) (hr := fun _ => rfl) (sT 0) rfl (sV m c 0) rfl) $$ S0
  iintro S0
  ihave S0 := (owns_halves (c : Thread nD τ) (sT 0) fullShare (sV m c 0)).1 $$ S0
  icases S0 with ⟨Sl0, S0⟩
  iapply (zSend m c 0 15 rfl (zp_at c (k0_dev4_eq c)) rfl rfl rfl rfl) $$ [Sl0 R0 Ow ts0 tr0]
  · isplitr; · iexact Hw
    isplitl [Sl0]; · iexact Sl0
    isplitl [R0]; · iexact R0
    isplitl [Ow]; · iexact Ow
    isplitl [ts0]; · iexact ts0
    iexact tr0
  iintro ⟨cs0, Ow⟩
  iapply (cpWait m c 15 (cpS 3) (wT 1) (fT 1) rfl rfl rfl) $$ [ff1 Ow]
  · isplitr; · iexact Hw
    isplitl [ff1]; · iexact ff1
    iexact Ow
  iintro ⟨F1, W1, vc3, Ow⟩
  iapply (ld c (r := rW 1) (hr := fun _ => rfl) (fT 1) rfl) $$ F1
  iintro F1
  iapply (ldA c (r := rW 1) (hr := fun _ => rfl) (bT 1) rfl) $$ C1
  iintro %_ C1
  iapply (stA c (r := rW 1) (hr := fun _ => rfl) (bT 1) rfl (bV m c 1) rfl) $$ C1
  iintro C1
  iapply (wpRet c)
  iapply HK
  isplitl [B0]; · iexact B0
  isplitl [C0]; · iexact C0
  isplitl [S0]; · iexact S0
  isplitl [cs0]; · iexact cs0
  isplitl [W1]; · iexact W1
  isplitl [vc3]; · iexact vc3
  isplitl [Ow]; · iexact Ow
  isplitl [F1]; · iexact F1
  iexact C1

theorem part5 (v2 v5 v14 : BitVec 32) {Q : (PUnit) → sProp 𝕄} :
    iprop(world m ∗
      own c (ybT 0) fullShare (ybV m c 0) ∗ own c (bT 1) fullShare (bV m c 1) ∗ anyT (F := F) c (sT 1) ∗ Ow (F := F) c 15
      ∗ anyT (F := F) (zp c) (rT 1) ∗ dutyTok ER (dC c (zsS 1)) 0 0 ∗ dutyTok ER (dC (zp c) (zrS 1)) 0 0
      ∗ Fl c (cpS 4) (wT 2) (fT 2) fullShare (wV m c 2) ∗ anyT (F := F) c (bT 2))
      ⊢ iprop((
        own c (ybT 0) fullShare (ybV m c 0) ∗ own c (bT 1) fullShare (bV m c 1) ∗ own c (sT 1) fullShare.right (sV m c 1)
        ∗ cred (tallyAt (dC c (zsS 1)) () NT) ∗ own c (wT 2) fullShare (wV m c 2) ∗ semVal (dC c (cpS 4)) 0 ∗ Ow (F := F) c 14
        ∗ own c (fT 2) fullShare (wV m c 2) ∗ own c (bT 2) fullShare (bV m c 2)
        -∗ Q ⟨⟩)
        -∗ WP c (k0_part5_skel (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 c v2 v5 v14) Q) := by
  unfold k0_part5_skel
  simp only [semSignalWord, semWaitWord, Prog.lift, Prog.bind_op, Prog.bind_ret, Prog.pure_eq_ret, wp_deviceId]
  iintro ⟨#Hw, B0, C1, S1, Ow, R1, ts1, tr1, ff2, C2⟩ HK
  iapply (ld c (r := rY 0) (hr := fun _ => rfl) (ybT 0) rfl) $$ B0
  iintro B0
  iapply (ld c (r := rW 1) (hr := fun _ => rfl) (bT 1) rfl) $$ C1
  iintro C1
  iapply (ldA c (r := rS 1) (hr := fun _ => rfl) (sT 1) rfl) $$ S1
  iintro %_ S1
  iapply (stA c (r := rS 1) (hr := fun _ => rfl) (sT 1) rfl (sV m c 1) rfl) $$ S1
  iintro S1
  ihave S1 := (owns_halves (c : Thread nD τ) (sT 1) fullShare (sV m c 1)).1 $$ S1
  icases S1 with ⟨Sl1, S1⟩
  iapply (zSend m c 1 14 rfl (zp_at c (k0_dev5_eq c)) rfl rfl rfl rfl) $$ [Sl1 R1 Ow ts1 tr1]
  · isplitr; · iexact Hw
    isplitl [Sl1]; · iexact Sl1
    isplitl [R1]; · iexact R1
    isplitl [Ow]; · iexact Ow
    isplitl [ts1]; · iexact ts1
    iexact tr1
  iintro ⟨cs1, Ow⟩
  iapply (cpWait m c 14 (cpS 4) (wT 2) (fT 2) rfl rfl rfl) $$ [ff2 Ow]
  · isplitr; · iexact Hw
    isplitl [ff2]; · iexact ff2
    iexact Ow
  iintro ⟨F2, W2, vc4, Ow⟩
  iapply (ld c (r := rW 2) (hr := fun _ => rfl) (fT 2) rfl) $$ F2
  iintro F2
  iapply (ldA c (r := rW 2) (hr := fun _ => rfl) (bT 2) rfl) $$ C2
  iintro %_ C2
  iapply (stA c (r := rW 2) (hr := fun _ => rfl) (bT 2) rfl (bV m c 2) rfl) $$ C2
  iintro C2
  iapply (wpRet c)
  iapply HK
  isplitl [B0]; · iexact B0
  isplitl [C1]; · iexact C1
  isplitl [S1]; · iexact S1
  isplitl [cs1]; · iexact cs1
  isplitl [W2]; · iexact W2
  isplitl [vc4]; · iexact vc4
  isplitl [Ow]; · iexact Ow
  isplitl [F2]; · iexact F2
  iexact C2

theorem part6 (v2 v5 v14 : BitVec 32) {Q : (PUnit) → sProp 𝕄} :
    iprop(world m ∗
      own c (ybT 0) fullShare (ybV m c 0) ∗ own c (bT 2) fullShare (bV m c 2) ∗ anyT (F := F) c (sT 2) ∗ Ow (F := F) c 14
      ∗ anyT (F := F) (zp c) (rT 2) ∗ dutyTok ER (dC c (zsS 2)) 0 0 ∗ dutyTok ER (dC (zp c) (zrS 2)) 0 0
      ∗ Fl c (cpS 5) (wT 3) (fT 3) fullShare (wV m c 3) ∗ anyT (F := F) c (bT 3))
      ⊢ iprop((
        own c (ybT 0) fullShare (ybV m c 0) ∗ own c (bT 2) fullShare (bV m c 2) ∗ own c (sT 2) fullShare.right (sV m c 2)
        ∗ cred (tallyAt (dC c (zsS 2)) () NT) ∗ own c (wT 3) fullShare (wV m c 3) ∗ semVal (dC c (cpS 5)) 0 ∗ Ow (F := F) c 13
        ∗ own c (fT 3) fullShare (wV m c 3) ∗ own c (bT 3) fullShare (bV m c 3)
        -∗ Q ⟨⟩)
        -∗ WP c (k0_part6_skel (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 c v2 v5 v14) Q) := by
  unfold k0_part6_skel
  simp only [semSignalWord, semWaitWord, Prog.lift, Prog.bind_op, Prog.bind_ret, Prog.pure_eq_ret, wp_deviceId]
  iintro ⟨#Hw, B0, C2, S2, Ow, R2, ts2, tr2, ff3, C3⟩ HK
  iapply (ld c (r := rY 0) (hr := fun _ => rfl) (ybT 0) rfl) $$ B0
  iintro B0
  iapply (ld c (r := rW 2) (hr := fun _ => rfl) (bT 2) rfl) $$ C2
  iintro C2
  iapply (ldA c (r := rS 2) (hr := fun _ => rfl) (sT 2) rfl) $$ S2
  iintro %_ S2
  iapply (stA c (r := rS 2) (hr := fun _ => rfl) (sT 2) rfl (sV m c 2) rfl) $$ S2
  iintro S2
  ihave S2 := (owns_halves (c : Thread nD τ) (sT 2) fullShare (sV m c 2)).1 $$ S2
  icases S2 with ⟨Sl2, S2⟩
  iapply (zSend m c 2 13 rfl (zp_at c (k0_dev6_eq c)) rfl rfl rfl rfl) $$ [Sl2 R2 Ow ts2 tr2]
  · isplitr; · iexact Hw
    isplitl [Sl2]; · iexact Sl2
    isplitl [R2]; · iexact R2
    isplitl [Ow]; · iexact Ow
    isplitl [ts2]; · iexact ts2
    iexact tr2
  iintro ⟨cs2, Ow⟩
  iapply (cpWait m c 13 (cpS 5) (wT 3) (fT 3) rfl rfl rfl) $$ [ff3 Ow]
  · isplitr; · iexact Hw
    isplitl [ff3]; · iexact ff3
    iexact Ow
  iintro ⟨F3, W3, vc5, Ow⟩
  iapply (ld c (r := rW 3) (hr := fun _ => rfl) (fT 3) rfl) $$ F3
  iintro F3
  iapply (ldA c (r := rW 3) (hr := fun _ => rfl) (bT 3) rfl) $$ C3
  iintro %_ C3
  iapply (stA c (r := rW 3) (hr := fun _ => rfl) (bT 3) rfl (bV m c 3) rfl) $$ C3
  iintro C3
  iapply (wpRet c)
  iapply HK
  isplitl [B0]; · iexact B0
  isplitl [C2]; · iexact C2
  isplitl [S2]; · iexact S2
  isplitl [cs2]; · iexact cs2
  isplitl [W3]; · iexact W3
  isplitl [vc5]; · iexact vc5
  isplitl [Ow]; · iexact Ow
  isplitl [F3]; · iexact F3
  iexact C3

theorem part7 (v2 v5 v14 : BitVec 32) {Q : (FVec F S1x256x4096 .bf16) → sProp 𝕄} :
    iprop(world m ∗
      own c (ybT 0) fullShare (ybV m c 0) ∗ own c (bT 3) fullShare (bV m c 3) ∗ anyT (F := F) c (sT 3) ∗ Ow (F := F) c 13
      ∗ anyT (F := F) (zp c) (rT 3) ∗ dutyTok ER (dC c (zsS 3)) 0 0 ∗ dutyTok ER (dC (zp c) (zrS 3)) 0 0
      ∗ Fl c (cpS 1) (dT c 1) (yqT 1) fullShare (dyV m c 1) ∗ anyT (F := F) c (ybT 1))
      ⊢ iprop((
        own c (ybT 0) fullShare (ybV m c 0) ∗ own c (bT 3) fullShare (bV m c 3) ∗ own c (sT 3) fullShare.right (sV m c 3)
        ∗ cred (tallyAt (dC c (zsS 3)) () NT) ∗ own c (dT c 1) fullShare (dyV m c 1) ∗ semVal (dC c (cpS 1)) 0 ∗ Ow (F := F) c 12
        ∗ own c (yT 1) fullShare (y1V m c 1) ∗ anyT (F := F) c (ybT 1)
        -∗ Q (k0_pay10 (y1V m c 1)))
        -∗ WP c (k0_part7_skel (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 c v2 v5 v14) Q) := by
  unfold k0_part7_skel
  simp only [semSignalWord, semWaitWord, Prog.lift, Prog.bind_op, Prog.bind_ret, Prog.pure_eq_ret, wp_deviceId]
  iintro ⟨#Hw, B0, C3, S3, Ow, R3, ts3, tr3, fy1, B1⟩ HK
  iapply (ld c (r := rY 0) (hr := fun _ => rfl) (ybT 0) rfl) $$ B0
  iintro B0
  iapply (ld c (r := rW 3) (hr := fun _ => rfl) (bT 3) rfl) $$ C3
  iintro C3
  iapply (ldA c (r := rS 3) (hr := fun _ => rfl) (sT 3) rfl) $$ S3
  iintro %_ S3
  iapply (stA c (r := rS 3) (hr := fun _ => rfl) (sT 3) rfl (sV m c 3) rfl) $$ S3
  iintro S3
  ihave S3 := (owns_halves (c : Thread nD τ) (sT 3) fullShare (sV m c 3)).1 $$ S3
  icases S3 with ⟨Sl3, S3⟩
  iapply (zSend m c 3 12 rfl (zp_at c (k0_dev7_eq c)) rfl rfl rfl rfl) $$ [Sl3 R3 Ow ts3 tr3]
  · isplitr; · iexact Hw
    isplitl [Sl3]; · iexact Sl3
    isplitl [R3]; · iexact R3
    isplitl [Ow]; · iexact Ow
    isplitl [ts3]; · iexact ts3
    iexact tr3
  iintro ⟨cs3, Ow⟩
  iapply (cpWait m c 12 (cpS 1) (dT c 1) (yqT 1) rfl rfl rfl) $$ [fy1 Ow]
  · isplitr; · iexact Hw
    isplitl [fy1]; · iexact fy1
    iexact Ow
  iintro ⟨Y1, D1, vc1, Ow⟩
  ihave Y1 := (yRow m c 1 1 rfl) $$ Y1
  iapply (ld c (r := rY 1) (hr := fun _ => rfl) (yT 1) rfl) $$ Y1
  iintro Y1
  iapply (ldA c (r := rY 1) (hr := fun _ => rfl) (ybT 1) rfl) $$ B1
  iintro %_ B1
  iapply (wpRet c)
  iapply HK
  isplitl [B0]; · iexact B0
  isplitl [C3]; · iexact C3
  isplitl [S3]; · iexact S3
  isplitl [cs3]; · iexact cs3
  isplitl [D1]; · iexact D1
  isplitl [vc1]; · iexact vc1
  isplitl [Ow]; · iexact Ow
  isplitl [Y1]; · iexact Y1
  iexact B1

theorem part8 (v2 v5 v14 : BitVec 32) {Q : (PUnit) → sProp 𝕄} :
    iprop(world m ∗
      anyT (F := F) c (ybT 1) ∗ own c (bT 0) fullShare (bV m c 0) ∗ anyT (F := F) c (sT 4) ∗ Ow (F := F) c 12 ∗ anyT (F := F) (zp c) (rT 4)
      ∗ dutyTok ER (dC c (zsS 4)) 0 0 ∗ dutyTok ER (dC (zp c) (zrS 4)) 0 0 ∗ own c (bT 1) fullShare (bV m c 1) ∗ anyT (F := F) c (sT 5))
      ⊢ iprop((
        own c (bT 0) fullShare (bV m c 0) ∗ own c (sT 4) fullShare.right (sV m c 4) ∗ cred (tallyAt (dC c (zsS 4)) () NT) ∗ Ow (F := F) c 11
        ∗ own c (ybT 1) fullShare (ybV m c 1) ∗ own c (bT 1) fullShare (bV m c 1) ∗ own c (sT 5) fullShare (sV m c 5)
        -∗ Q ⟨⟩)
        -∗ WP c (k0_part8_skel (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 c v2 v5 v14 (k0_pay10 (y1V m c 1))) Q) := by
  unfold k0_part8_skel
  simp only [semSignalWord, semWaitWord, Prog.lift, Prog.bind_op, Prog.bind_ret, Prog.pure_eq_ret, wp_deviceId]
  iintro ⟨#Hw, B1, C0, S4, Ow, R4, ts4, tr4, C1, S5⟩ HK
  iapply (stA c (r := rY 1) (hr := fun _ => rfl) (ybT 1) rfl (ybV m c 1) rfl) $$ B1
  iintro B1
  iapply (ld c (r := rY 1) (hr := fun _ => rfl) (ybT 1) rfl) $$ B1
  iintro B1
  iapply (ld c (r := rW 0) (hr := fun _ => rfl) (bT 0) rfl) $$ C0
  iintro C0
  iapply (ldA c (r := rS 4) (hr := fun _ => rfl) (sT 4) rfl) $$ S4
  iintro %_ S4
  iapply (stA c (r := rS 4) (hr := fun _ => rfl) (sT 4) rfl (sV m c 4) rfl) $$ S4
  iintro S4
  ihave S4 := (owns_halves (c : Thread nD τ) (sT 4) fullShare (sV m c 4)).1 $$ S4
  icases S4 with ⟨Sl4, S4⟩
  iapply (zSend m c 4 11 rfl (zp_at c (k0_dev8_eq c)) rfl rfl rfl rfl) $$ [Sl4 R4 Ow ts4 tr4]
  · isplitr; · iexact Hw
    isplitl [Sl4]; · iexact Sl4
    isplitl [R4]; · iexact R4
    isplitl [Ow]; · iexact Ow
    isplitl [ts4]; · iexact ts4
    iexact tr4
  iintro ⟨cs4, Ow⟩
  iapply (ld c (r := rY 1) (hr := fun _ => rfl) (ybT 1) rfl) $$ B1
  iintro B1
  iapply (ld c (r := rW 1) (hr := fun _ => rfl) (bT 1) rfl) $$ C1
  iintro C1
  iapply (ldA c (r := rS 5) (hr := fun _ => rfl) (sT 5) rfl) $$ S5
  iintro %_ S5
  iapply (stA c (r := rS 5) (hr := fun _ => rfl) (sT 5) rfl (sV m c 5) rfl) $$ S5
  iintro S5
  iapply (wpRet c)
  iapply HK
  isplitl [C0]; · iexact C0
  isplitl [S4]; · iexact S4
  isplitl [cs4]; · iexact cs4
  isplitl [Ow]; · iexact Ow
  isplitl [B1]; · iexact B1
  isplitl [C1]; · iexact C1
  iexact S5

theorem part9 (v2 v5 v14 : BitVec 32) {Q : (PUnit) → sProp 𝕄} :
    iprop(world m ∗
      Ow (F := F) c 11 ∗ own c (sT 5) fullShare (sV m c 5) ∗ anyT (F := F) (zp c) (rT 5) ∗ dutyTok ER (dC c (zsS 5)) 0 0
      ∗ dutyTok ER (dC (zp c) (zrS 5)) 0 0 ∗ own c (ybT 1) fullShare (ybV m c 1) ∗ own c (bT 2) fullShare (bV m c 2) ∗ anyT (F := F) c (sT 6))
      ⊢ iprop((
        own c (sT 5) fullShare.right (sV m c 5) ∗ cred (tallyAt (dC c (zsS 5)) () NT) ∗ Ow (F := F) c 10 ∗ own c (ybT 1) fullShare (ybV m c 1)
        ∗ own c (bT 2) fullShare (bV m c 2) ∗ own c (sT 6) fullShare (sV m c 6)
        -∗ Q ⟨⟩)
        -∗ WP c (k0_part9_skel (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 c v2 v5 v14) Q) := by
  unfold k0_part9_skel
  simp only [semSignalWord, semWaitWord, Prog.lift, Prog.bind_op, Prog.bind_ret, Prog.pure_eq_ret, wp_deviceId]
  iintro ⟨#Hw, Ow, S5, R5, ts5, tr5, B1, C2, S6⟩ HK
  ihave S5 := (owns_halves (c : Thread nD τ) (sT 5) fullShare (sV m c 5)).1 $$ S5
  icases S5 with ⟨Sl5, S5⟩
  iapply (zSend m c 5 10 rfl (zp_at c (k0_dev9_eq c)) rfl rfl rfl rfl) $$ [Sl5 R5 Ow ts5 tr5]
  · isplitr; · iexact Hw
    isplitl [Sl5]; · iexact Sl5
    isplitl [R5]; · iexact R5
    isplitl [Ow]; · iexact Ow
    isplitl [ts5]; · iexact ts5
    iexact tr5
  iintro ⟨cs5, Ow⟩
  iapply (ld c (r := rY 1) (hr := fun _ => rfl) (ybT 1) rfl) $$ B1
  iintro B1
  iapply (ld c (r := rW 2) (hr := fun _ => rfl) (bT 2) rfl) $$ C2
  iintro C2
  iapply (ldA c (r := rS 6) (hr := fun _ => rfl) (sT 6) rfl) $$ S6
  iintro %_ S6
  iapply (stA c (r := rS 6) (hr := fun _ => rfl) (sT 6) rfl (sV m c 6) rfl) $$ S6
  iintro S6
  iapply (wpRet c)
  iapply HK
  isplitl [S5]; · iexact S5
  isplitl [cs5]; · iexact cs5
  isplitl [Ow]; · iexact Ow
  isplitl [B1]; · iexact B1
  isplitl [C2]; · iexact C2
  iexact S6

theorem part10 (v2 v5 v14 : BitVec 32) {Q : (PUnit) → sProp 𝕄} :
    iprop(world m ∗
      Ow (F := F) c 10 ∗ own c (sT 6) fullShare (sV m c 6) ∗ anyT (F := F) (zp c) (rT 6) ∗ dutyTok ER (dC c (zsS 6)) 0 0
      ∗ dutyTok ER (dC (zp c) (zrS 6)) 0 0 ∗ own c (ybT 1) fullShare (ybV m c 1) ∗ own c (bT 3) fullShare (bV m c 3) ∗ anyT (F := F) c (sT 7)
      ∗ anyT (F := F) (zp c) (rT 7) ∗ dutyTok ER (dC c (zsS 7)) 0 0 ∗ dutyTok ER (dC (zp c) (zrS 7)) 0 0)
      ⊢ iprop((
        own c (sT 6) fullShare.right (sV m c 6) ∗ cred (tallyAt (dC c (zsS 6)) () NT) ∗ own c (ybT 1) fullShare (ybV m c 1)
        ∗ own c (bT 3) fullShare (bV m c 3) ∗ own c (sT 7) fullShare.right (sV m c 7) ∗ cred (tallyAt (dC c (zsS 7)) () NT) ∗ Ow (F := F) c 8
        -∗ Q ⟨⟩)
        -∗ WP c (k0_part10_skel (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 c v2 v5 v14) Q) := by
  unfold k0_part10_skel
  simp only [semSignalWord, semWaitWord, Prog.lift, Prog.bind_op, Prog.bind_ret, Prog.pure_eq_ret, wp_deviceId]
  iintro ⟨#Hw, Ow, S6, R6, ts6, tr6, B1, C3, S7, R7, ts7, tr7⟩ HK
  ihave S6 := (owns_halves (c : Thread nD τ) (sT 6) fullShare (sV m c 6)).1 $$ S6
  icases S6 with ⟨Sl6, S6⟩
  iapply (zSend m c 6 9 rfl (zp_at c (k0_dev10_eq c)) rfl rfl rfl rfl) $$ [Sl6 R6 Ow ts6 tr6]
  · isplitr; · iexact Hw
    isplitl [Sl6]; · iexact Sl6
    isplitl [R6]; · iexact R6
    isplitl [Ow]; · iexact Ow
    isplitl [ts6]; · iexact ts6
    iexact tr6
  iintro ⟨cs6, Ow⟩
  iapply (ld c (r := rY 1) (hr := fun _ => rfl) (ybT 1) rfl) $$ B1
  iintro B1
  iapply (ld c (r := rW 3) (hr := fun _ => rfl) (bT 3) rfl) $$ C3
  iintro C3
  iapply (ldA c (r := rS 7) (hr := fun _ => rfl) (sT 7) rfl) $$ S7
  iintro %_ S7
  iapply (stA c (r := rS 7) (hr := fun _ => rfl) (sT 7) rfl (sV m c 7) rfl) $$ S7
  iintro S7
  ihave S7 := (owns_halves (c : Thread nD τ) (sT 7) fullShare (sV m c 7)).1 $$ S7
  icases S7 with ⟨Sl7, S7⟩
  iapply (zSend m c 7 8 rfl (zp_at c (k0_dev11_eq c)) rfl rfl rfl rfl) $$ [Sl7 R7 Ow ts7 tr7]
  · isplitr; · iexact Hw
    isplitl [Sl7]; · iexact Sl7
    isplitl [R7]; · iexact R7
    isplitl [Ow]; · iexact Ow
    isplitl [ts7]; · iexact ts7
    iexact tr7
  iintro ⟨cs7, Ow⟩
  iapply (wpRet c)
  iapply HK
  isplitl [S6]; · iexact S6
  isplitl [cs6]; · iexact cs6
  isplitl [B1]; · iexact B1
  isplitl [C3]; · iexact C3
  isplitl [S7]; · iexact S7
  isplitl [cs7]; · iexact cs7
  iexact Ow

end Cert.CubeProof

end
-- ==== Proof.PartsB.lean ====
/-
# The body's stretches: the sums, the second exchange's sends and the copies out

The run is printed in consecutive stretches; each lemma says what one of them takes and leaves.
-/
module

public import proofs.«01_k».proof.Proof.Steps

@[expose] public section

noncomputable section

namespace Cert.CubeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (c : Dev nD)

theorem part11 (v2 v5 v8 v15 v16 : BitVec 32) {Q : (PUnit) → sProp 𝕄} :
    iprop(world m ∗
      Ow (F := F) c 8 ∗ cred (tallyAt (dC c (zrS 0)) () NT) ∗ atPos ER (dC c (zrS 0)) 0 ∅ 0 ∗ own c (sT 0) fullShare.right (sV m c 0)
      ∗ anyT (F := F) c (oT 0 0) ∗ anyT (F := F) (xn c) (oT 1 0) ∗ dutyTok ER (dC c (xsS 0)) 0 0 ∗ dutyTok ER (dC (nb 0 c) (xrS 0)) 0 0)
      ⊢ iprop((
        semVal (dC c (zrS 0)) 0 ∗ own c (sT 0) fullShare.right (sV m c 0) ∗ own c (rT 0) fullShare (sV m (zp c) 0)
        ∗ own c (oT 0 0) fullShare.right.right (oV m c 0) ∗ own c (oT 0 0) fullShare.right.left (oV m c 0) ∗ cred (tallyAt (dC c (xsS 0)) () NT)
        ∗ Ow (F := F) c 7
        -∗ Q ⟨⟩)
        -∗ WP c (k0_part11_skel (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 c v2 v5 v8 v15 v16) Q) := by
  unfold k0_part11_skel
  simp only [semSignalWord, semWaitWord, Prog.lift, Prog.bind_op, Prog.bind_ret, Prog.pure_eq_ret, wp_deviceId]
  iintro ⟨#Hw, Ow, cr0, ar0, S0, O0, OX0, tx0, ty0⟩ HK
  iapply (zRecv m c 0 8 (by decide) rfl (credit_r 0)) $$ [cr0 Ow ar0]
  · isplitr; · iexact Hw
    isplitl [cr0]; · iexact cr0
    isplitl [Ow]; · iexact Ow
    iexact ar0
  iintro ⟨R0, vr0, Ow⟩
  iapply (ld c (r := rS 0) (hr := fun _ => rfl) (sT 0) rfl) $$ S0
  iintro S0
  iapply (ld c (r := rS 0) (hr := fun _ => rfl) (rT 0) rfl) $$ R0
  iintro R0
  iapply (ldA c (r := rO 0 0) (hr := fun _ => rfl) (oT 0 0) rfl) $$ O0
  iintro %_ O0
  iapply (stA c (r := rO 0 0) (hr := fun _ => rfl) (oT 0 0) rfl (oV m c 0) rfl) $$ O0
  iintro O0
  ihave O0 := (oSplit c 0 (oV m c 0)).1 $$ O0
  icases O0 with ⟨Oa0, Ob0, O0⟩
  iapply (xSend m c 0 7 rfl ((nb_even 0 c rfl).trans (xn_at c (k0_dev12_eq c))) rfl rfl rfl rfl) $$ [Oa0 OX0 Ow tx0 ty0]
  · isplitr; · iexact Hw
    isplitl [Oa0]; · iexact Oa0
    isplitl [OX0]; · iexact OX0
    isplitl [Ow]; · iexact Ow
    isplitl [tx0]; · iexact tx0
    iexact ty0
  iintro ⟨cx0, Ow⟩
  iapply (wpRet c)
  iapply HK
  isplitl [vr0]; · iexact vr0
  isplitl [S0]; · iexact S0
  isplitl [R0]; · iexact R0
  isplitl [O0]; · iexact O0
  isplitl [Ob0]; · iexact Ob0
  isplitl [cx0]; · iexact cx0
  iexact Ow

theorem part12 (v2 v5 v11 v14 v15 : BitVec 32) {Q : (Σ' (_ : BitVec 32), BitVec 32) → sProp 𝕄} :
    iprop(world m ∗
      Ow (F := F) c 7 ∗ own c (oT 0 0) fullShare.right.left (oV m c 0) ∗ anyT (F := F) (yn c) (oT 2 0) ∗ dutyTok ER (dC c (xsS 1)) 0 0
      ∗ dutyTok ER (dC (nb 1 c) (xrS 1)) 0 0 ∗ own c (oT 0 0) fullShare.right.right (oV m c 0) ∗ anyT (F := F) c (gT c 0 0)
      ∗ anyT (F := F) c (uT c 0 0) ∗ semVal (dC c (outS 0)) 0 ∗ cred (tallyAt (dC c (zrS 1)) () NT) ∗ atPos ER (dC c (zrS 1)) 0 ∅ 0
      ∗ own c (sT 1) fullShare.right (sV m c 1) ∗ anyT (F := F) c (oT 0 1))
      ⊢ iprop((∀ v347 c2,
        cred (tallyAt (dC c (xsS 1)) () NT) ∗ own c (oT 0 0) fullShare.right.right (oV m c 0)
        ∗ Fl c (outS 0) (gT c 0 0) (uT c 0 0) fullShare (uV m c 0 0) ∗ semVal (dC c (zrS 1)) 0 ∗ Ow (F := F) c 6
        ∗ own c (sT 1) fullShare.right (sV m c 1) ∗ own c (rT 1) fullShare (sV m (zp c) 1) ∗ own c (oT 0 1) fullShare.right.right (oV m c 1)
        ∗ own c (oT 0 1) fullShare.left (oV m c 1) ∗ own c (oT 0 1) fullShare.right.left (oV m c 1)
        -∗ Q ⟨v347, c2⟩)
        -∗ WP c (k0_part12_skel (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 c v2 v5 v11 v14 v15) Q) := by
  unfold k0_part12_skel
  simp only [semSignalWord, semWaitWord, Prog.lift, Prog.bind_op, Prog.bind_ret, Prog.pure_eq_ret, wp_deviceId]
  iintro ⟨#Hw, Ow, Ob0, OY0, tx1, ty1, O0, G0_0, U0_0, vo0, cr1, ar1, S1, O1⟩ HK
  iapply (xSend m c 1 6 rfl ((nb_odd 1 c rfl).trans (yn_at c (k0_dev13_eq c))) rfl rfl rfl rfl) $$ [Ob0 OY0 Ow tx1 ty1]
  · isplitr; · iexact Hw
    isplitl [Ob0]; · iexact Ob0
    isplitl [OY0]; · iexact OY0
    isplitl [Ow]; · iexact Ow
    isplitl [tx1]; · iexact tx1
    iexact ty1
  iintro ⟨cx1, Ow⟩
  iapply (ld c (r := rO 0 0) (hr := fun _ => rfl) (oT 0 0) rfl) $$ O0
  iintro O0
  iapply (ldA c (r := Rect.unit (s := S1024x1024) (k0_off3 c) S256x256.size (k0_off3_inb c)) (hr := fun _ => rfl) (gT c 0 0) (gT_at c 0 0 (k0_off3_eq c))) $$ G0_0
  iintro %_ G0_0
  iapply (stA c (r := Rect.unit (s := S1024x1024) (k0_off3 c) S256x256.size (k0_off3_inb c)) (hr := fun _ => rfl) (gT c 0 0) (gT_at c 0 0 (k0_off3_eq c)) (uV m c 0 0) rfl) $$ G0_0
  iintro G0_0
  iapply (cpStartA c (outS 0) (gT c 0 0) (uT c 0 0) (gT_at c 0 0 (k0_off4_eq c)) (uT_at c 0 0 (k0_off4_eq c)) rfl (by decide)) $$ [G0_0 U0_0 vo0]
  · isplitl [G0_0]; · iexact G0_0
    isplitl [U0_0]; · iexact U0_0
    iexact vo0
  iintro fo0
  iapply (zRecv m c 1 6 (by decide) rfl (credit_r 1)) $$ [cr1 Ow ar1]
  · isplitr; · iexact Hw
    isplitl [cr1]; · iexact cr1
    isplitl [Ow]; · iexact Ow
    iexact ar1
  iintro ⟨R1, vr1, Ow⟩
  iapply (ld c (r := rS 1) (hr := fun _ => rfl) (sT 1) rfl) $$ S1
  iintro S1
  iapply (ld c (r := rS 1) (hr := fun _ => rfl) (rT 1) rfl) $$ R1
  iintro R1
  iapply (ldA c (r := rO 0 1) (hr := fun _ => rfl) (oT 0 1) rfl) $$ O1
  iintro %_ O1
  iapply (stA c (r := rO 0 1) (hr := fun _ => rfl) (oT 0 1) rfl (oV m c 1) rfl) $$ O1
  iintro O1
  ihave O1 := (oSplit c 1 (oV m c 1)).1 $$ O1
  icases O1 with ⟨Oa1, Ob1, O1⟩
  iapply (wpRet c)
  iapply HK
  isplitl [cx1]; · iexact cx1
  isplitl [O0]; · iexact O0
  isplitl [fo0]; · iexact fo0
  isplitl [vr1]; · iexact vr1
  isplitl [Ow]; · iexact Ow
  isplitl [S1]; · iexact S1
  isplitl [R1]; · iexact R1
  isplitl [O1]; · iexact O1
  isplitl [Oa1]; · iexact Oa1
  iexact Ob1

theorem part13 (v2 v5 v8 v11 v16 v347 c2 : BitVec 32) {Q : (BitVec 32) → sProp 𝕄} :
    iprop(world m ∗
      Ow (F := F) c 6 ∗ own c (oT 0 1) fullShare.left (oV m c 1) ∗ anyT (F := F) (xn c) (oT 1 1) ∗ dutyTok ER (dC c (xsS 2)) 0 0
      ∗ dutyTok ER (dC (nb 2 c) (xrS 2)) 0 0 ∗ own c (oT 0 1) fullShare.right.left (oV m c 1) ∗ anyT (F := F) (yn c) (oT 2 1)
      ∗ dutyTok ER (dC c (xsS 3)) 0 0 ∗ dutyTok ER (dC (nb 3 c) (xrS 3)) 0 0 ∗ own c (oT 0 1) fullShare.right.right (oV m c 1)
      ∗ anyT (F := F) c (gT c 0 1) ∗ anyT (F := F) c (uT c 0 1) ∗ semVal (dC c (outS 1)) 0)
      ⊢ iprop((∀ c4,
        cred (tallyAt (dC c (xsS 2)) () NT) ∗ cred (tallyAt (dC c (xsS 3)) () NT) ∗ Ow (F := F) c 4 ∗ own c (oT 0 1) fullShare.right.right (oV m c 1)
        ∗ Fl c (outS 1) (gT c 0 1) (uT c 0 1) fullShare (uV m c 0 1)
        -∗ Q c4)
        -∗ WP c (k0_part13_skel (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 c v2 v5 v8 v11 v16 v347 c2) Q) := by
  unfold k0_part13_skel
  simp only [semSignalWord, semWaitWord, Prog.lift, Prog.bind_op, Prog.bind_ret, Prog.pure_eq_ret, wp_deviceId]
  iintro ⟨#Hw, Ow, Oa1, OX1, tx2, ty2, Ob1, OY1, tx3, ty3, O1, G0_1, U0_1, vo1⟩ HK
  iapply (xSend m c 2 5 rfl ((nb_even 2 c rfl).trans (xn_at c (k0_dev14_eq c))) rfl rfl rfl rfl) $$ [Oa1 OX1 Ow tx2 ty2]
  · isplitr; · iexact Hw
    isplitl [Oa1]; · iexact Oa1
    isplitl [OX1]; · iexact OX1
    isplitl [Ow]; · iexact Ow
    isplitl [tx2]; · iexact tx2
    iexact ty2
  iintro ⟨cx2, Ow⟩
  iapply (xSend m c 3 4 rfl ((nb_odd 3 c rfl).trans (yn_at c (k0_dev15_eq c))) rfl rfl rfl rfl) $$ [Ob1 OY1 Ow tx3 ty3]
  · isplitr; · iexact Hw
    isplitl [Ob1]; · iexact Ob1
    isplitl [OY1]; · iexact OY1
    isplitl [Ow]; · iexact Ow
    isplitl [tx3]; · iexact tx3
    iexact ty3
  iintro ⟨cx3, Ow⟩
  iapply (ld c (r := rO 0 1) (hr := fun _ => rfl) (oT 0 1) rfl) $$ O1
  iintro O1
  iapply (ldA c (r := Rect.unit (s := S1024x1024) (k0_off5 c) S256x256.size (k0_off5_inb c)) (hr := fun _ => rfl) (gT c 0 1) (gT_at c 0 1 (k0_off5_eq c))) $$ G0_1
  iintro %_ G0_1
  iapply (stA c (r := Rect.unit (s := S1024x1024) (k0_off5 c) S256x256.size (k0_off5_inb c)) (hr := fun _ => rfl) (gT c 0 1) (gT_at c 0 1 (k0_off5_eq c)) (uV m c 0 1) rfl) $$ G0_1
  iintro G0_1
  iapply (cpStartA c (outS 1) (gT c 0 1) (uT c 0 1) (gT_at c 0 1 (k0_off6_eq c)) (uT_at c 0 1 (k0_off6_eq c)) rfl (by decide)) $$ [G0_1 U0_1 vo1]
  · isplitl [G0_1]; · iexact G0_1
    isplitl [U0_1]; · iexact U0_1
    iexact vo1
  iintro fo1
  iapply (wpRet c)
  iapply HK
  isplitl [cx2]; · iexact cx2
  isplitl [cx3]; · iexact cx3
  isplitl [Ow]; · iexact Ow
  isplitl [O1]; · iexact O1
  iexact fo1

theorem part14 (v2 v5 v8 v14 v15 c4 : BitVec 32) {Q : (BitVec 32) → sProp 𝕄} :
    iprop(world m ∗
      Ow (F := F) c 4 ∗ cred (tallyAt (dC c (zrS 2)) () NT) ∗ atPos ER (dC c (zrS 2)) 0 ∅ 0 ∗ own c (sT 2) fullShare.right (sV m c 2)
      ∗ anyT (F := F) c (oT 0 2) ∗ anyT (F := F) (xn c) (oT 1 2) ∗ dutyTok ER (dC c (xsS 4)) 0 0 ∗ dutyTok ER (dC (nb 4 c) (xrS 4)) 0 0)
      ⊢ iprop((∀ v409,
        semVal (dC c (zrS 2)) 0 ∗ own c (sT 2) fullShare.right (sV m c 2) ∗ own c (rT 2) fullShare (sV m (zp c) 2)
        ∗ own c (oT 0 2) fullShare.right.right (oV m c 2) ∗ own c (oT 0 2) fullShare.right.left (oV m c 2) ∗ cred (tallyAt (dC c (xsS 4)) () NT)
        ∗ Ow (F := F) c 3
        -∗ Q v409)
        -∗ WP c (k0_part14_skel (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 c v2 v5 v8 v14 v15 c4) Q) := by
  unfold k0_part14_skel
  simp only [semSignalWord, semWaitWord, Prog.lift, Prog.bind_op, Prog.bind_ret, Prog.pure_eq_ret, wp_deviceId]
  iintro ⟨#Hw, Ow, cr2, ar2, S2, O2, OX2, tx4, ty4⟩ HK
  iapply (zRecv m c 2 4 (by decide) rfl (credit_r 2)) $$ [cr2 Ow ar2]
  · isplitr; · iexact Hw
    isplitl [cr2]; · iexact cr2
    isplitl [Ow]; · iexact Ow
    iexact ar2
  iintro ⟨R2, vr2, Ow⟩
  iapply (ld c (r := rS 2) (hr := fun _ => rfl) (sT 2) rfl) $$ S2
  iintro S2
  iapply (ld c (r := rS 2) (hr := fun _ => rfl) (rT 2) rfl) $$ R2
  iintro R2
  iapply (ldA c (r := rO 0 2) (hr := fun _ => rfl) (oT 0 2) rfl) $$ O2
  iintro %_ O2
  iapply (stA c (r := rO 0 2) (hr := fun _ => rfl) (oT 0 2) rfl (oV m c 2) rfl) $$ O2
  iintro O2
  ihave O2 := (oSplit c 2 (oV m c 2)).1 $$ O2
  icases O2 with ⟨Oa2, Ob2, O2⟩
  iapply (xSend m c 4 3 rfl ((nb_even 4 c rfl).trans (xn_at c (k0_dev16_eq c))) rfl rfl rfl rfl) $$ [Oa2 OX2 Ow tx4 ty4]
  · isplitr; · iexact Hw
    isplitl [Oa2]; · iexact Oa2
    isplitl [OX2]; · iexact OX2
    isplitl [Ow]; · iexact Ow
    isplitl [tx4]; · iexact tx4
    iexact ty4
  iintro ⟨cx4, Ow⟩
  iapply (wpRet c)
  iapply HK
  isplitl [vr2]; · iexact vr2
  isplitl [S2]; · iexact S2
  isplitl [R2]; · iexact R2
  isplitl [O2]; · iexact O2
  isplitl [Ob2]; · iexact Ob2
  isplitl [cx4]; · iexact cx4
  iexact Ow

theorem part15 (v2 v5 v8 v11 v14 v16 v409 : BitVec 32) {Q : (Vec F S256x256 .bf16) → sProp 𝕄} :
    iprop(world m ∗
      Ow (F := F) c 3 ∗ own c (oT 0 2) fullShare.right.left (oV m c 2) ∗ anyT (F := F) (yn c) (oT 2 2) ∗ dutyTok ER (dC c (xsS 5)) 0 0
      ∗ dutyTok ER (dC (nb 5 c) (xrS 5)) 0 0 ∗ own c (oT 0 2) fullShare.right.right (oV m c 2) ∗ anyT (F := F) c (gT c 0 2)
      ∗ anyT (F := F) c (uT c 0 2) ∗ semVal (dC c (outS 2)) 0 ∗ cred (tallyAt (dC c (zrS 3)) () NT) ∗ atPos ER (dC c (zrS 3)) 0 ∅ 0
      ∗ own c (sT 3) fullShare.right (sV m c 3))
      ⊢ iprop((
        cred (tallyAt (dC c (xsS 5)) () NT) ∗ own c (oT 0 2) fullShare.right.right (oV m c 2)
        ∗ Fl c (outS 2) (gT c 0 2) (uT c 0 2) fullShare (uV m c 0 2) ∗ own c (rT 3) fullShare (sV m (zp c) 3) ∗ semVal (dC c (zrS 3)) 0
        ∗ Ow (F := F) c 2 ∗ own c (sT 3) fullShare.right (sV m c 3)
        -∗ Q (sV m c 3))
        -∗ WP c (k0_part15_skel (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 c v2 v5 v8 v11 v14 v16 v409) Q) := by
  unfold k0_part15_skel
  simp only [semSignalWord, semWaitWord, Prog.lift, Prog.bind_op, Prog.bind_ret, Prog.pure_eq_ret, wp_deviceId]
  iintro ⟨#Hw, Ow, Ob2, OY2, tx5, ty5, O2, G0_2, U0_2, vo2, cr3, ar3, S3⟩ HK
  iapply (xSend m c 5 2 rfl ((nb_odd 5 c rfl).trans (yn_at c (k0_dev17_eq c))) rfl rfl rfl rfl) $$ [Ob2 OY2 Ow tx5 ty5]
  · isplitr; · iexact Hw
    isplitl [Ob2]; · iexact Ob2
    isplitl [OY2]; · iexact OY2
    isplitl [Ow]; · iexact Ow
    isplitl [tx5]; · iexact tx5
    iexact ty5
  iintro ⟨cx5, Ow⟩
  iapply (ld c (r := rO 0 2) (hr := fun _ => rfl) (oT 0 2) rfl) $$ O2
  iintro O2
  iapply (ldA c (r := Rect.unit (s := S1024x1024) (k0_off7 c) S256x256.size (k0_off7_inb c)) (hr := fun _ => rfl) (gT c 0 2) (gT_at c 0 2 (k0_off7_eq c))) $$ G0_2
  iintro %_ G0_2
  iapply (stA c (r := Rect.unit (s := S1024x1024) (k0_off7 c) S256x256.size (k0_off7_inb c)) (hr := fun _ => rfl) (gT c 0 2) (gT_at c 0 2 (k0_off7_eq c)) (uV m c 0 2) rfl) $$ G0_2
  iintro G0_2
  iapply (cpStartA c (outS 2) (gT c 0 2) (uT c 0 2) (gT_at c 0 2 (k0_off8_eq c)) (uT_at c 0 2 (k0_off8_eq c)) rfl (by decide)) $$ [G0_2 U0_2 vo2]
  · isplitl [G0_2]; · iexact G0_2
    isplitl [U0_2]; · iexact U0_2
    iexact vo2
  iintro fo2
  iapply (zRecv m c 3 2 (by decide) rfl (credit_r 3)) $$ [cr3 Ow ar3]
  · isplitr; · iexact Hw
    isplitl [cr3]; · iexact cr3
    isplitl [Ow]; · iexact Ow
    iexact ar3
  iintro ⟨R3, vr3, Ow⟩
  iapply (ld c (r := rS 3) (hr := fun _ => rfl) (sT 3) rfl) $$ S3
  iintro S3
  iapply (wpRet c)
  iapply HK
  isplitl [cx5]; · iexact cx5
  isplitl [O2]; · iexact O2
  isplitl [fo2]; · iexact fo2
  isplitl [R3]; · iexact R3
  isplitl [vr3]; · iexact vr3
  isplitl [Ow]; · iexact Ow
  iexact S3

theorem part16 (v2 v5 v8 v11 v15 v16 : BitVec 32) {Q : (FVec F S256x256 .f32) → sProp 𝕄} :
    iprop(world m ∗
      own c (rT 3) fullShare (sV m (zp c) 3) ∗ anyT (F := F) c (oT 0 3) ∗ Ow (F := F) c 2 ∗ anyT (F := F) (xn c) (oT 1 3)
      ∗ dutyTok ER (dC c (xsS 6)) 0 0 ∗ dutyTok ER (dC (nb 6 c) (xrS 6)) 0 0 ∗ anyT (F := F) (yn c) (oT 2 3) ∗ dutyTok ER (dC c (xsS 7)) 0 0
      ∗ dutyTok ER (dC (nb 7 c) (xrS 7)) 0 0)
      ⊢ iprop((
        own c (rT 3) fullShare (sV m (zp c) 3) ∗ cred (tallyAt (dC c (xsS 6)) () NT) ∗ cred (tallyAt (dC c (xsS 7)) () NT) ∗ Ow (F := F) c 0
        ∗ own c (oT 0 3) fullShare.right.right (oV m c 3)
        -∗ Q (k0_pay22 (oV m c 3)))
        -∗ WP c (k0_part16_skel (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 c v2 v5 v8 v11 v15 v16 (sV m c 3)) Q) := by
  unfold k0_part16_skel
  simp only [semSignalWord, semWaitWord, Prog.lift, Prog.bind_op, Prog.bind_ret, Prog.pure_eq_ret, wp_deviceId]
  iintro ⟨#Hw, R3, O3, Ow, OX3, tx6, ty6, OY3, tx7, ty7⟩ HK
  iapply (ld c (r := rS 3) (hr := fun _ => rfl) (rT 3) rfl) $$ R3
  iintro R3
  iapply (ldA c (r := rO 0 3) (hr := fun _ => rfl) (oT 0 3) rfl) $$ O3
  iintro %_ O3
  iapply (stA c (r := rO 0 3) (hr := fun _ => rfl) (oT 0 3) rfl (oV m c 3) rfl) $$ O3
  iintro O3
  ihave O3 := (oSplit c 3 (oV m c 3)).1 $$ O3
  icases O3 with ⟨Oa3, Ob3, O3⟩
  iapply (xSend m c 6 1 rfl ((nb_even 6 c rfl).trans (xn_at c (k0_dev18_eq c))) rfl rfl rfl rfl) $$ [Oa3 OX3 Ow tx6 ty6]
  · isplitr; · iexact Hw
    isplitl [Oa3]; · iexact Oa3
    isplitl [OX3]; · iexact OX3
    isplitl [Ow]; · iexact Ow
    isplitl [tx6]; · iexact tx6
    iexact ty6
  iintro ⟨cx6, Ow⟩
  iapply (xSend m c 7 0 rfl ((nb_odd 7 c rfl).trans (yn_at c (k0_dev19_eq c))) rfl rfl rfl rfl) $$ [Ob3 OY3 Ow tx7 ty7]
  · isplitr; · iexact Hw
    isplitl [Ob3]; · iexact Ob3
    isplitl [OY3]; · iexact OY3
    isplitl [Ow]; · iexact Ow
    isplitl [tx7]; · iexact tx7
    iexact ty7
  iintro ⟨cx7, Ow⟩
  iapply (ld c (r := rO 0 3) (hr := fun _ => rfl) (oT 0 3) rfl) $$ O3
  iintro O3
  iapply (wpRet c)
  iapply HK
  isplitl [R3]; · iexact R3
  isplitl [cx6]; · iexact cx6
  isplitl [cx7]; · iexact cx7
  isplitl [Ow]; · iexact Ow
  iexact O3

theorem part17 (v2 v5 v13 v14 : BitVec 32) {Q : (BitVec 32) → sProp 𝕄} :
    iprop(world m ∗
      anyT (F := F) c (gT c 0 3) ∗ anyT (F := F) c (uT c 0 3) ∗ semVal (dC c (outS 3)) 0 ∗ Ow (F := F) c 0 ∗ cred (tallyAt (dC c (zrS 4)) () NT)
      ∗ atPos ER (dC c (zrS 4)) 0 ∅ 0 ∗ own c (sT 4) fullShare.right (sV m c 4) ∗ anyT (F := F) c (gT c 1 0) ∗ anyT (F := F) c (uT c 1 0)
      ∗ semVal (dC c (outS 4)) 0)
      ⊢ iprop((∀ v502,
        Fl c (outS 3) (gT c 0 3) (uT c 0 3) fullShare (uV m c 0 3) ∗ semVal (dC c (zrS 4)) 0 ∗ Ow (F := F) c 0
        ∗ own c (sT 4) fullShare.right (sV m c 4) ∗ own c (rT 4) fullShare (sV m (zp c) 4)
        ∗ Fl c (outS 4) (gT c 1 0) (uT c 1 0) fullShare (uV m c 1 0)
        -∗ Q v502)
        -∗ WP c (k0_part17_skel (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 c v2 v5 v13 v14 (k0_pay22 (oV m c 3))) Q) := by
  unfold k0_part17_skel
  simp only [semSignalWord, semWaitWord, Prog.lift, Prog.bind_op, Prog.bind_ret, Prog.pure_eq_ret, wp_deviceId]
  iintro ⟨#Hw, G0_3, U0_3, vo3, Ow, cr4, ar4, S4, G1_0, U1_0, vo4⟩ HK
  iapply (ldA c (r := Rect.unit (s := S1024x1024) (k0_off9 c) S256x256.size (k0_off9_inb c)) (hr := fun _ => rfl) (gT c 0 3) (gT_at c 0 3 (k0_off9_eq c))) $$ G0_3
  iintro %_ G0_3
  iapply (stA c (r := Rect.unit (s := S1024x1024) (k0_off9 c) S256x256.size (k0_off9_inb c)) (hr := fun _ => rfl) (gT c 0 3) (gT_at c 0 3 (k0_off9_eq c)) (uV m c 0 3) rfl) $$ G0_3
  iintro G0_3
  iapply (cpStartA c (outS 3) (gT c 0 3) (uT c 0 3) (gT_at c 0 3 (k0_off10_eq c)) (uT_at c 0 3 (k0_off10_eq c)) rfl (by decide)) $$ [G0_3 U0_3 vo3]
  · isplitl [G0_3]; · iexact G0_3
    isplitl [U0_3]; · iexact U0_3
    iexact vo3
  iintro fo3
  iapply (zRecv m c 4 0 (by decide) rfl (credit_r 4)) $$ [cr4 Ow ar4]
  · isplitr; · iexact Hw
    isplitl [cr4]; · iexact cr4
    isplitl [Ow]; · iexact Ow
    iexact ar4
  iintro ⟨R4, vr4, Ow⟩
  iapply (ld c (r := rS 4) (hr := fun _ => rfl) (sT 4) rfl) $$ S4
  iintro S4
  iapply (ld c (r := rS 4) (hr := fun _ => rfl) (rT 4) rfl) $$ R4
  iintro R4
  iapply (ldA c (r := Rect.unit (s := S1024x1024) (k0_off11 c) S256x256.size (k0_off11_inb c)) (hr := fun _ => rfl) (gT c 1 0) (gT_at c 1 0 (k0_off11_eq c))) $$ G1_0
  iintro %_ G1_0
  iapply (stA c (r := Rect.unit (s := S1024x1024) (k0_off11 c) S256x256.size (k0_off11_inb c)) (hr := fun _ => rfl) (gT c 1 0) (gT_at c 1 0 (k0_off11_eq c)) (uV m c 1 0) rfl) $$ G1_0
  iintro G1_0
  iapply (cpStartA c (outS 4) (gT c 1 0) (uT c 1 0) (gT_at c 1 0 (k0_off12_eq c)) (uT_at c 1 0 (k0_off12_eq c)) rfl (by decide)) $$ [G1_0 U1_0 vo4]
  · isplitl [G1_0]; · iexact G1_0
    isplitl [U1_0]; · iexact U1_0
    iexact vo4
  iintro fo4
  iapply (wpRet c)
  iapply HK
  isplitl [fo3]; · iexact fo3
  isplitl [vr4]; · iexact vr4
  isplitl [Ow]; · iexact Ow
  isplitl [S4]; · iexact S4
  isplitl [R4]; · iexact R4
  iexact fo4

theorem part18 (v2 v5 v13 v14 v502 : BitVec 32) {Q : (PUnit) → sProp 𝕄} :
    iprop(world m ∗
      Ow (F := F) c 0 ∗ cred (tallyAt (dC c (zrS 5)) () NT) ∗ atPos ER (dC c (zrS 5)) 0 ∅ 0 ∗ own c (sT 5) fullShare.right (sV m c 5)
      ∗ anyT (F := F) c (gT c 1 1) ∗ anyT (F := F) c (uT c 1 1) ∗ semVal (dC c (outS 5)) 0 ∗ cred (tallyAt (dC c (zrS 6)) () NT)
      ∗ atPos ER (dC c (zrS 6)) 0 ∅ 0)
      ⊢ iprop((
        semVal (dC c (zrS 5)) 0 ∗ own c (sT 5) fullShare.right (sV m c 5) ∗ own c (rT 5) fullShare (sV m (zp c) 5)
        ∗ Fl c (outS 5) (gT c 1 1) (uT c 1 1) fullShare (uV m c 1 1) ∗ own c (rT 6) fullShare (sV m (zp c) 6) ∗ semVal (dC c (zrS 6)) 0
        ∗ Ow (F := F) c 0
        -∗ Q ⟨⟩)
        -∗ WP c (k0_part18_skel (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 c v2 v5 v13 v14 v502) Q) := by
  unfold k0_part18_skel
  simp only [semSignalWord, semWaitWord, Prog.lift, Prog.bind_op, Prog.bind_ret, Prog.pure_eq_ret, wp_deviceId]
  iintro ⟨#Hw, Ow, cr5, ar5, S5, G1_1, U1_1, vo5, cr6, ar6⟩ HK
  iapply (zRecv m c 5 0 (by decide) rfl (credit_r 5)) $$ [cr5 Ow ar5]
  · isplitr; · iexact Hw
    isplitl [cr5]; · iexact cr5
    isplitl [Ow]; · iexact Ow
    iexact ar5
  iintro ⟨R5, vr5, Ow⟩
  iapply (ld c (r := rS 5) (hr := fun _ => rfl) (sT 5) rfl) $$ S5
  iintro S5
  iapply (ld c (r := rS 5) (hr := fun _ => rfl) (rT 5) rfl) $$ R5
  iintro R5
  iapply (ldA c (r := Rect.unit (s := S1024x1024) (k0_off13 c) S256x256.size (k0_off13_inb c)) (hr := fun _ => rfl) (gT c 1 1) (gT_at c 1 1 (k0_off13_eq c))) $$ G1_1
  iintro %_ G1_1
  iapply (stA c (r := Rect.unit (s := S1024x1024) (k0_off13 c) S256x256.size (k0_off13_inb c)) (hr := fun _ => rfl) (gT c 1 1) (gT_at c 1 1 (k0_off13_eq c)) (uV m c 1 1) rfl) $$ G1_1
  iintro G1_1
  iapply (cpStartA c (outS 5) (gT c 1 1) (uT c 1 1) (gT_at c 1 1 (k0_off14_eq c)) (uT_at c 1 1 (k0_off14_eq c)) rfl (by decide)) $$ [G1_1 U1_1 vo5]
  · isplitl [G1_1]; · iexact G1_1
    isplitl [U1_1]; · iexact U1_1
    iexact vo5
  iintro fo5
  iapply (zRecv m c 6 0 (by decide) rfl (credit_r 6)) $$ [cr6 Ow ar6]
  · isplitr; · iexact Hw
    isplitl [cr6]; · iexact cr6
    isplitl [Ow]; · iexact Ow
    iexact ar6
  iintro ⟨R6, vr6, Ow⟩
  iapply (wpRet c)
  iapply HK
  isplitl [vr5]; · iexact vr5
  isplitl [S5]; · iexact S5
  isplitl [R5]; · iexact R5
  isplitl [fo5]; · iexact fo5
  isplitl [R6]; · iexact R6
  isplitl [vr6]; · iexact vr6
  iexact Ow

theorem part19 (v2 v5 v13 v14 : BitVec 32) {Q : (PUnit) → sProp 𝕄} :
    iprop(world m ∗
      own c (sT 6) fullShare.right (sV m c 6) ∗ own c (rT 6) fullShare (sV m (zp c) 6) ∗ anyT (F := F) c (gT c 1 2) ∗ anyT (F := F) c (uT c 1 2)
      ∗ semVal (dC c (outS 6)) 0 ∗ Ow (F := F) c 0 ∗ cred (tallyAt (dC c (zrS 7)) () NT) ∗ atPos ER (dC c (zrS 7)) 0 ∅ 0
      ∗ own c (sT 7) fullShare.right (sV m c 7) ∗ anyT (F := F) c (gT c 1 3))
      ⊢ iprop((
        own c (sT 6) fullShare.right (sV m c 6) ∗ own c (rT 6) fullShare (sV m (zp c) 6) ∗ Fl c (outS 6) (gT c 1 2) (uT c 1 2) fullShare (uV m c 1 2)
        ∗ semVal (dC c (zrS 7)) 0 ∗ Ow (F := F) c 0 ∗ own c (sT 7) fullShare.right (sV m c 7) ∗ own c (rT 7) fullShare (sV m (zp c) 7)
        ∗ own c (gT c 1 3) fullShare (uV m c 1 3)
        -∗ Q ⟨⟩)
        -∗ WP c (k0_part19_skel (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 c v2 v5 v13 v14) Q) := by
  unfold k0_part19_skel
  simp only [semSignalWord, semWaitWord, Prog.lift, Prog.bind_op, Prog.bind_ret, Prog.pure_eq_ret, wp_deviceId]
  iintro ⟨#Hw, S6, R6, G1_2, U1_2, vo6, Ow, cr7, ar7, S7, G1_3⟩ HK
  iapply (ld c (r := rS 6) (hr := fun _ => rfl) (sT 6) rfl) $$ S6
  iintro S6
  iapply (ld c (r := rS 6) (hr := fun _ => rfl) (rT 6) rfl) $$ R6
  iintro R6
  iapply (ldA c (r := Rect.unit (s := S1024x1024) (k0_off15 c) S256x256.size (k0_off15_inb c)) (hr := fun _ => rfl) (gT c 1 2) (gT_at c 1 2 (k0_off15_eq c))) $$ G1_2
  iintro %_ G1_2
  iapply (stA c (r := Rect.unit (s := S1024x1024) (k0_off15 c) S256x256.size (k0_off15_inb c)) (hr := fun _ => rfl) (gT c 1 2) (gT_at c 1 2 (k0_off15_eq c)) (uV m c 1 2) rfl) $$ G1_2
  iintro G1_2
  iapply (cpStartA c (outS 6) (gT c 1 2) (uT c 1 2) (gT_at c 1 2 (k0_off16_eq c)) (uT_at c 1 2 (k0_off16_eq c)) rfl (by decide)) $$ [G1_2 U1_2 vo6]
  · isplitl [G1_2]; · iexact G1_2
    isplitl [U1_2]; · iexact U1_2
    iexact vo6
  iintro fo6
  iapply (zRecv m c 7 0 (by decide) rfl (credit_r 7)) $$ [cr7 Ow ar7]
  · isplitr; · iexact Hw
    isplitl [cr7]; · iexact cr7
    isplitl [Ow]; · iexact Ow
    iexact ar7
  iintro ⟨R7, vr7, Ow⟩
  iapply (ld c (r := rS 7) (hr := fun _ => rfl) (sT 7) rfl) $$ S7
  iintro S7
  iapply (ld c (r := rS 7) (hr := fun _ => rfl) (rT 7) rfl) $$ R7
  iintro R7
  iapply (ldA c (r := Rect.unit (s := S1024x1024) (k0_off17 c) S256x256.size (k0_off17_inb c)) (hr := fun _ => rfl) (gT c 1 3) (gT_at c 1 3 (k0_off17_eq c))) $$ G1_3
  iintro %_ G1_3
  iapply (stA c (r := Rect.unit (s := S1024x1024) (k0_off17 c) S256x256.size (k0_off17_inb c)) (hr := fun _ => rfl) (gT c 1 3) (gT_at c 1 3 (k0_off17_eq c)) (uV m c 1 3) rfl) $$ G1_3
  iintro G1_3
  iapply (wpRet c)
  iapply HK
  isplitl [S6]; · iexact S6
  isplitl [R6]; · iexact R6
  isplitl [fo6]; · iexact fo6
  isplitl [vr7]; · iexact vr7
  isplitl [Ow]; · iexact Ow
  isplitl [S7]; · iexact S7
  isplitl [R7]; · iexact R7
  iexact G1_3

end Cert.CubeProof

end
-- ==== Proof.PartsC.lean ====
/-
# The body's stretches: the second exchange's arrivals and the last waits

The run is printed in consecutive stretches; each lemma says what one of them takes and leaves.
-/
module

public import proofs.«01_k».proof.Proof.Steps

@[expose] public section

noncomputable section

namespace Cert.CubeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (c : Dev nD)

theorem part20 (v2 v5 v8 v10 v15 v16 : BitVec 32) {Q : (PUnit) → sProp 𝕄} :
    iprop(world m ∗
      anyT (F := F) c (uT c 1 3) ∗ own c (gT c 1 3) fullShare (uV m c 1 3) ∗ semVal (dC c (outS 7)) 0 ∗ Ow (F := F) c 0
      ∗ cred (tallyAt (dC c (xrS 0)) () NT) ∗ atPos ER (dC c (xrS 0)) 0 ∅ 0 ∗ anyT (F := F) c (gT c 2 0) ∗ anyT (F := F) c (uT c 2 0)
      ∗ semVal (dC c (outS 8)) 0)
      ⊢ iprop((
        Fl c (outS 7) (gT c 1 3) (uT c 1 3) fullShare (uV m c 1 3) ∗ semVal (dC c (xrS 0)) 0 ∗ Ow (F := F) c 0
        ∗ own c (oT 1 0) fullShare (oV m (xn c) 0) ∗ Fl c (outS 8) (gT c 2 0) (uT c 2 0) fullShare (uV m c 2 0)
        -∗ Q ⟨⟩)
        -∗ WP c (k0_part20_skel (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 c v2 v5 v8 v10 v15 v16) Q) := by
  unfold k0_part20_skel
  simp only [semSignalWord, semWaitWord, Prog.lift, Prog.bind_op, Prog.bind_ret, Prog.pure_eq_ret, wp_deviceId]
  iintro ⟨#Hw, U1_3, G1_3, vo7, Ow, cy0, ay0, G2_0, U2_0, vo8⟩ HK
  iapply (cpStartA c (outS 7) (gT c 1 3) (uT c 1 3) (gT_at c 1 3 (k0_off18_eq c)) (uT_at c 1 3 (k0_off18_eq c)) rfl (by decide)) $$ [G1_3 U1_3 vo7]
  · isplitl [G1_3]; · iexact G1_3
    isplitl [U1_3]; · iexact U1_3
    iexact vo7
  iintro fo7
  iapply (xRecv m c 0 1 0 (xn c) rfl rfl (nb_even 0 c rfl) rfl (credit_o 1 0)) $$ [cy0 Ow ay0]
  · isplitr; · iexact Hw
    isplitl [cy0]; · iexact cy0
    isplitl [Ow]; · iexact Ow
    iexact ay0
  iintro ⟨Q0, vy0, Ow⟩
  iapply (ld c (r := rO 1 0) (hr := fun _ => rfl) (oT 1 0) rfl) $$ Q0
  iintro Q0
  iapply (ldA c (r := Rect.unit (s := S1024x1024) (k0_off19 c 2#32) S256x256.size (k0_off19_inb c 1)) (hr := fun _ => rfl) (gT c 2 0) (gT_at c 2 0 (off19_2 c))) $$ G2_0
  iintro %_ G2_0
  iapply (stA c (r := Rect.unit (s := S1024x1024) (k0_off19 c 2#32) S256x256.size (k0_off19_inb c 1)) (hr := fun _ => rfl) (gT c 2 0) (gT_at c 2 0 (off19_2 c)) (uV m c 2 0) rfl) $$ G2_0
  iintro G2_0
  iapply (cpStartA c (outS 8) (gT c 2 0) (uT c 2 0) (gT_at c 2 0 (off20_2 c)) (uT_at c 2 0 (off20_2 c)) rfl (by decide)) $$ [G2_0 U2_0 vo8]
  · isplitl [G2_0]; · iexact G2_0
    isplitl [U2_0]; · iexact U2_0
    iexact vo8
  iintro fo8
  iapply (wpRet c)
  iapply HK
  isplitl [fo7]; · iexact fo7
  isplitl [vy0]; · iexact vy0
  isplitl [Ow]; · iexact Ow
  isplitl [Q0]; · iexact Q0
  iexact fo8

theorem part21 (v5 v8 v10 v15 : BitVec 32) {Q : (Σ' (_ : BitVec 32), FVec F S256x256 .f32) → sProp 𝕄} :
    iprop(world m ∗
      Ow (F := F) c 0 ∗ cred (tallyAt (dC c (xrS 1)) () NT) ∗ atPos ER (dC c (xrS 1)) 0 ∅ 0 ∗ anyT (F := F) c (gT c 3 0) ∗ anyT (F := F) c (uT c 3 0)
      ∗ semVal (dC c (outS 9)) 0 ∗ cred (tallyAt (dC c (xrS 2)) () NT) ∗ atPos ER (dC c (xrS 2)) 0 ∅ 0)
      ⊢ iprop((∀ v623,
        semVal (dC c (xrS 1)) 0 ∗ own c (oT 2 0) fullShare (oV m (yn c) 0) ∗ Fl c (outS 9) (gT c 3 0) (uT c 3 0) fullShare (uV m c 3 0)
        ∗ semVal (dC c (xrS 2)) 0 ∗ Ow (F := F) c 0 ∗ own c (oT 1 1) fullShare (oV m (xn c) 1)
        -∗ Q ⟨v623, k0_pay30 (oV m (xn c) 1)⟩)
        -∗ WP c (k0_part21_skel (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 c v5 v8 v10 v15) Q) := by
  unfold k0_part21_skel
  simp only [semSignalWord, semWaitWord, Prog.lift, Prog.bind_op, Prog.bind_ret, Prog.pure_eq_ret, wp_deviceId]
  iintro ⟨#Hw, Ow, cy1, ay1, G3_0, U3_0, vo9, cy2, ay2⟩ HK
  iapply (xRecv m c 1 2 0 (yn c) rfl rfl (nb_odd 1 c rfl) rfl (credit_o 2 0)) $$ [cy1 Ow ay1]
  · isplitr; · iexact Hw
    isplitl [cy1]; · iexact cy1
    isplitl [Ow]; · iexact Ow
    iexact ay1
  iintro ⟨Q1, vy1, Ow⟩
  iapply (ld c (r := rO 2 0) (hr := fun _ => rfl) (oT 2 0) rfl) $$ Q1
  iintro Q1
  iapply (ldA c (r := Rect.unit (s := S1024x1024) (k0_off19 c 1#32) S256x256.size (k0_off19_inb c 0)) (hr := fun _ => rfl) (gT c 3 0) (gT_at c 3 0 (off19_3 c))) $$ G3_0
  iintro %_ G3_0
  iapply (stA c (r := Rect.unit (s := S1024x1024) (k0_off19 c 1#32) S256x256.size (k0_off19_inb c 0)) (hr := fun _ => rfl) (gT c 3 0) (gT_at c 3 0 (off19_3 c)) (uV m c 3 0) rfl) $$ G3_0
  iintro G3_0
  iapply (cpStartA c (outS 9) (gT c 3 0) (uT c 3 0) (gT_at c 3 0 (off20_3 c)) (uT_at c 3 0 (off20_3 c)) rfl (by decide)) $$ [G3_0 U3_0 vo9]
  · isplitl [G3_0]; · iexact G3_0
    isplitl [U3_0]; · iexact U3_0
    iexact vo9
  iintro fo9
  iapply (xRecv m c 2 1 1 (xn c) rfl rfl (nb_even 2 c rfl) rfl (credit_o 1 1)) $$ [cy2 Ow ay2]
  · isplitr; · iexact Hw
    isplitl [cy2]; · iexact cy2
    isplitl [Ow]; · iexact Ow
    iexact ay2
  iintro ⟨Q2, vy2, Ow⟩
  iapply (ld c (r := rO 1 1) (hr := fun _ => rfl) (oT 1 1) rfl) $$ Q2
  iintro Q2
  iapply (wpRet c)
  iapply HK
  isplitl [vy1]; · iexact vy1
  isplitl [Q1]; · iexact Q1
  isplitl [fo9]; · iexact fo9
  isplitl [vy2]; · iexact vy2
  isplitl [Ow]; · iexact Ow
  iexact Q2

theorem part22 (v2 v8 v10 v16 v623 : BitVec 32) {Q : (BitVec 32) → sProp 𝕄} :
    iprop(world m ∗
      anyT (F := F) c (gT c 2 1) ∗ anyT (F := F) c (uT c 2 1) ∗ semVal (dC c (outS 10)) 0 ∗ Ow (F := F) c 0 ∗ cred (tallyAt (dC c (xrS 3)) () NT)
      ∗ atPos ER (dC c (xrS 3)) 0 ∅ 0 ∗ anyT (F := F) c (gT c 3 1) ∗ anyT (F := F) c (uT c 3 1) ∗ semVal (dC c (outS 11)) 0)
      ⊢ iprop((∀ c4,
        Fl c (outS 10) (gT c 2 1) (uT c 2 1) fullShare (uV m c 2 1) ∗ semVal (dC c (xrS 3)) 0 ∗ Ow (F := F) c 0
        ∗ own c (oT 2 1) fullShare (oV m (yn c) 1) ∗ Fl c (outS 11) (gT c 3 1) (uT c 3 1) fullShare (uV m c 3 1)
        -∗ Q c4)
        -∗ WP c (k0_part22_skel (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 c v2 v8 v10 v16 v623 (k0_pay30 (oV m (xn c) 1))) Q) := by
  unfold k0_part22_skel
  simp only [semSignalWord, semWaitWord, Prog.lift, Prog.bind_op, Prog.bind_ret, Prog.pure_eq_ret, wp_deviceId]
  iintro ⟨#Hw, G2_1, U2_1, vo10, Ow, cy3, ay3, G3_1, U3_1, vo11⟩ HK
  iapply (ldA c (r := Rect.unit (s := S1024x1024) (k0_off21 c 2#32) S256x256.size (k0_off21_inb c 1)) (hr := fun _ => rfl) (gT c 2 1) (gT_at c 2 1 (off21_2 c))) $$ G2_1
  iintro %_ G2_1
  iapply (stA c (r := Rect.unit (s := S1024x1024) (k0_off21 c 2#32) S256x256.size (k0_off21_inb c 1)) (hr := fun _ => rfl) (gT c 2 1) (gT_at c 2 1 (off21_2 c)) (uV m c 2 1) rfl) $$ G2_1
  iintro G2_1
  iapply (cpStartA c (outS 10) (gT c 2 1) (uT c 2 1) (gT_at c 2 1 (off22_2 c)) (uT_at c 2 1 (off22_2 c)) rfl (by decide)) $$ [G2_1 U2_1 vo10]
  · isplitl [G2_1]; · iexact G2_1
    isplitl [U2_1]; · iexact U2_1
    iexact vo10
  iintro fo10
  iapply (xRecv m c 3 2 1 (yn c) rfl rfl (nb_odd 3 c rfl) rfl (credit_o 2 1)) $$ [cy3 Ow ay3]
  · isplitr; · iexact Hw
    isplitl [cy3]; · iexact cy3
    isplitl [Ow]; · iexact Ow
    iexact ay3
  iintro ⟨Q3, vy3, Ow⟩
  iapply (ld c (r := rO 2 1) (hr := fun _ => rfl) (oT 2 1) rfl) $$ Q3
  iintro Q3
  iapply (ldA c (r := Rect.unit (s := S1024x1024) (k0_off21 c 1#32) S256x256.size (k0_off21_inb c 0)) (hr := fun _ => rfl) (gT c 3 1) (gT_at c 3 1 (off21_3 c))) $$ G3_1
  iintro %_ G3_1
  iapply (stA c (r := Rect.unit (s := S1024x1024) (k0_off21 c 1#32) S256x256.size (k0_off21_inb c 0)) (hr := fun _ => rfl) (gT c 3 1) (gT_at c 3 1 (off21_3 c)) (uV m c 3 1) rfl) $$ G3_1
  iintro G3_1
  iapply (cpStartA c (outS 11) (gT c 3 1) (uT c 3 1) (gT_at c 3 1 (off22_3 c)) (uT_at c 3 1 (off22_3 c)) rfl (by decide)) $$ [G3_1 U3_1 vo11]
  · isplitl [G3_1]; · iexact G3_1
    isplitl [U3_1]; · iexact U3_1
    iexact vo11
  iintro fo11
  iapply (wpRet c)
  iapply HK
  isplitl [fo10]; · iexact fo10
  isplitl [vy3]; · iexact vy3
  isplitl [Ow]; · iexact Ow
  isplitl [Q3]; · iexact Q3
  iexact fo11

theorem part23 (v2 v5 v8 v10 v15 v16 c4 : BitVec 32) {Q : (PUnit) → sProp 𝕄} :
    iprop(world m ∗
      Ow (F := F) c 0 ∗ cred (tallyAt (dC c (xrS 4)) () NT) ∗ atPos ER (dC c (xrS 4)) 0 ∅ 0 ∗ anyT (F := F) c (gT c 2 2) ∗ anyT (F := F) c (uT c 2 2)
      ∗ semVal (dC c (outS 12)) 0)
      ⊢ iprop((
        semVal (dC c (xrS 4)) 0 ∗ Ow (F := F) c 0 ∗ own c (oT 1 2) fullShare (oV m (xn c) 2)
        ∗ Fl c (outS 12) (gT c 2 2) (uT c 2 2) fullShare (uV m c 2 2)
        -∗ Q ⟨⟩)
        -∗ WP c (k0_part23_skel (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 c v2 v5 v8 v10 v15 v16 c4) Q) := by
  unfold k0_part23_skel
  simp only [semSignalWord, semWaitWord, Prog.lift, Prog.bind_op, Prog.bind_ret, Prog.pure_eq_ret, wp_deviceId]
  iintro ⟨#Hw, Ow, cy4, ay4, G2_2, U2_2, vo12⟩ HK
  iapply (xRecv m c 4 1 2 (xn c) rfl rfl (nb_even 4 c rfl) rfl (credit_o 1 2)) $$ [cy4 Ow ay4]
  · isplitr; · iexact Hw
    isplitl [cy4]; · iexact cy4
    isplitl [Ow]; · iexact Ow
    iexact ay4
  iintro ⟨Q4, vy4, Ow⟩
  iapply (ld c (r := rO 1 2) (hr := fun _ => rfl) (oT 1 2) rfl) $$ Q4
  iintro Q4
  iapply (ldA c (r := Rect.unit (s := S1024x1024) (k0_off23 c 2#32) S256x256.size (k0_off23_inb c 1)) (hr := fun _ => rfl) (gT c 2 2) (gT_at c 2 2 (off23_2 c))) $$ G2_2
  iintro %_ G2_2
  iapply (stA c (r := Rect.unit (s := S1024x1024) (k0_off23 c 2#32) S256x256.size (k0_off23_inb c 1)) (hr := fun _ => rfl) (gT c 2 2) (gT_at c 2 2 (off23_2 c)) (uV m c 2 2) rfl) $$ G2_2
  iintro G2_2
  iapply (cpStartA c (outS 12) (gT c 2 2) (uT c 2 2) (gT_at c 2 2 (off24_2 c)) (uT_at c 2 2 (off24_2 c)) rfl (by decide)) $$ [G2_2 U2_2 vo12]
  · isplitl [G2_2]; · iexact G2_2
    isplitl [U2_2]; · iexact U2_2
    iexact vo12
  iintro fo12
  iapply (wpRet c)
  iapply HK
  isplitl [vy4]; · iexact vy4
  isplitl [Ow]; · iexact Ow
  isplitl [Q4]; · iexact Q4
  iexact fo12

theorem part24 (v5 v8 v10 v15 : BitVec 32) {Q : (PUnit) → sProp 𝕄} :
    iprop(world m ∗
      Ow (F := F) c 0 ∗ cred (tallyAt (dC c (xrS 5)) () NT) ∗ atPos ER (dC c (xrS 5)) 0 ∅ 0 ∗ anyT (F := F) c (gT c 3 2) ∗ anyT (F := F) c (uT c 3 2)
      ∗ semVal (dC c (outS 13)) 0 ∗ cred (tallyAt (dC c (xrS 6)) () NT) ∗ atPos ER (dC c (xrS 6)) 0 ∅ 0 ∗ anyT (F := F) c (gT c 2 3))
      ⊢ iprop((
        semVal (dC c (xrS 5)) 0 ∗ own c (oT 2 2) fullShare (oV m (yn c) 2) ∗ Fl c (outS 13) (gT c 3 2) (uT c 3 2) fullShare (uV m c 3 2)
        ∗ semVal (dC c (xrS 6)) 0 ∗ Ow (F := F) c 0 ∗ own c (oT 1 3) fullShare (oV m (xn c) 3) ∗ own c (gT c 2 3) fullShare (uV m c 2 3)
        -∗ Q ⟨⟩)
        -∗ WP c (k0_part24_skel (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 c v5 v8 v10 v15) Q) := by
  unfold k0_part24_skel
  simp only [semSignalWord, semWaitWord, Prog.lift, Prog.bind_op, Prog.bind_ret, Prog.pure_eq_ret, wp_deviceId]
  iintro ⟨#Hw, Ow, cy5, ay5, G3_2, U3_2, vo13, cy6, ay6, G2_3⟩ HK
  iapply (xRecv m c 5 2 2 (yn c) rfl rfl (nb_odd 5 c rfl) rfl (credit_o 2 2)) $$ [cy5 Ow ay5]
  · isplitr; · iexact Hw
    isplitl [cy5]; · iexact cy5
    isplitl [Ow]; · iexact Ow
    iexact ay5
  iintro ⟨Q5, vy5, Ow⟩
  iapply (ld c (r := rO 2 2) (hr := fun _ => rfl) (oT 2 2) rfl) $$ Q5
  iintro Q5
  iapply (ldA c (r := Rect.unit (s := S1024x1024) (k0_off23 c 1#32) S256x256.size (k0_off23_inb c 0)) (hr := fun _ => rfl) (gT c 3 2) (gT_at c 3 2 (off23_3 c))) $$ G3_2
  iintro %_ G3_2
  iapply (stA c (r := Rect.unit (s := S1024x1024) (k0_off23 c 1#32) S256x256.size (k0_off23_inb c 0)) (hr := fun _ => rfl) (gT c 3 2) (gT_at c 3 2 (off23_3 c)) (uV m c 3 2) rfl) $$ G3_2
  iintro G3_2
  iapply (cpStartA c (outS 13) (gT c 3 2) (uT c 3 2) (gT_at c 3 2 (off24_3 c)) (uT_at c 3 2 (off24_3 c)) rfl (by decide)) $$ [G3_2 U3_2 vo13]
  · isplitl [G3_2]; · iexact G3_2
    isplitl [U3_2]; · iexact U3_2
    iexact vo13
  iintro fo13
  iapply (xRecv m c 6 1 3 (xn c) rfl rfl (nb_even 6 c rfl) rfl (credit_o 1 3)) $$ [cy6 Ow ay6]
  · isplitr; · iexact Hw
    isplitl [cy6]; · iexact cy6
    isplitl [Ow]; · iexact Ow
    iexact ay6
  iintro ⟨Q6, vy6, Ow⟩
  iapply (ld c (r := rO 1 3) (hr := fun _ => rfl) (oT 1 3) rfl) $$ Q6
  iintro Q6
  iapply (ldA c (r := Rect.unit (s := S1024x1024) (k0_off25 c 2#32) S256x256.size (k0_off25_inb c 1)) (hr := fun _ => rfl) (gT c 2 3) (gT_at c 2 3 (off25_2 c))) $$ G2_3
  iintro %_ G2_3
  iapply (stA c (r := Rect.unit (s := S1024x1024) (k0_off25 c 2#32) S256x256.size (k0_off25_inb c 1)) (hr := fun _ => rfl) (gT c 2 3) (gT_at c 2 3 (off25_2 c)) (uV m c 2 3) rfl) $$ G2_3
  iintro G2_3
  iapply (wpRet c)
  iapply HK
  isplitl [vy5]; · iexact vy5
  isplitl [Q5]; · iexact Q5
  isplitl [fo13]; · iexact fo13
  isplitl [vy6]; · iexact vy6
  isplitl [Ow]; · iexact Ow
  isplitl [Q6]; · iexact Q6
  iexact G2_3

theorem part25 (v2 v8 v10 v16 : BitVec 32) {Q : (PUnit) → sProp 𝕄} :
    iprop(world m ∗
      anyT (F := F) c (uT c 2 3) ∗ own c (gT c 2 3) fullShare (uV m c 2 3) ∗ semVal (dC c (outS 14)) 0 ∗ Ow (F := F) c 0
      ∗ cred (tallyAt (dC c (xrS 7)) () NT) ∗ atPos ER (dC c (xrS 7)) 0 ∅ 0 ∗ anyT (F := F) c (gT c 3 3) ∗ anyT (F := F) c (uT c 3 3)
      ∗ semVal (dC c (outS 15)) 0)
      ⊢ iprop((
        Fl c (outS 14) (gT c 2 3) (uT c 2 3) fullShare (uV m c 2 3) ∗ semVal (dC c (xrS 7)) 0 ∗ Ow (F := F) c 0
        ∗ own c (oT 2 3) fullShare (oV m (yn c) 3) ∗ Fl c (outS 15) (gT c 3 3) (uT c 3 3) fullShare (uV m c 3 3)
        -∗ Q ⟨⟩)
        -∗ WP c (k0_part25_skel (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 c v2 v8 v10 v16) Q) := by
  unfold k0_part25_skel
  simp only [semSignalWord, semWaitWord, Prog.lift, Prog.bind_op, Prog.bind_ret, Prog.pure_eq_ret, wp_deviceId]
  iintro ⟨#Hw, U2_3, G2_3, vo14, Ow, cy7, ay7, G3_3, U3_3, vo15⟩ HK
  iapply (cpStartA c (outS 14) (gT c 2 3) (uT c 2 3) (gT_at c 2 3 (off26_2 c)) (uT_at c 2 3 (off26_2 c)) rfl (by decide)) $$ [G2_3 U2_3 vo14]
  · isplitl [G2_3]; · iexact G2_3
    isplitl [U2_3]; · iexact U2_3
    iexact vo14
  iintro fo14
  iapply (xRecv m c 7 2 3 (yn c) rfl rfl (nb_odd 7 c rfl) rfl (credit_o 2 3)) $$ [cy7 Ow ay7]
  · isplitr; · iexact Hw
    isplitl [cy7]; · iexact cy7
    isplitl [Ow]; · iexact Ow
    iexact ay7
  iintro ⟨Q7, vy7, Ow⟩
  iapply (ld c (r := rO 2 3) (hr := fun _ => rfl) (oT 2 3) rfl) $$ Q7
  iintro Q7
  iapply (ldA c (r := Rect.unit (s := S1024x1024) (k0_off25 c 1#32) S256x256.size (k0_off25_inb c 0)) (hr := fun _ => rfl) (gT c 3 3) (gT_at c 3 3 (off25_3 c))) $$ G3_3
  iintro %_ G3_3
  iapply (stA c (r := Rect.unit (s := S1024x1024) (k0_off25 c 1#32) S256x256.size (k0_off25_inb c 0)) (hr := fun _ => rfl) (gT c 3 3) (gT_at c 3 3 (off25_3 c)) (uV m c 3 3) rfl) $$ G3_3
  iintro G3_3
  iapply (cpStartA c (outS 15) (gT c 3 3) (uT c 3 3) (gT_at c 3 3 (off26_3 c)) (uT_at c 3 3 (off26_3 c)) rfl (by decide)) $$ [G3_3 U3_3 vo15]
  · isplitl [G3_3]; · iexact G3_3
    isplitl [U3_3]; · iexact U3_3
    iexact vo15
  iintro fo15
  iapply (wpRet c)
  iapply HK
  isplitl [fo14]; · iexact fo14
  isplitl [vy7]; · iexact vy7
  isplitl [Ow]; · iexact Ow
  isplitl [Q7]; · iexact Q7
  iexact fo15

theorem part26 {Q : (PUnit) → sProp 𝕄} :
    iprop(world m ∗
      cred (tallyAt (dC c (zsS 0)) () NT) ∗ Ow (F := F) c 0 ∗ atPos ER (dC c (zsS 0)) 0 ∅ 0 ∗ cred (tallyAt (dC c (zsS 1)) () NT)
      ∗ atPos ER (dC c (zsS 1)) 0 ∅ 0 ∗ cred (tallyAt (dC c (zsS 2)) () NT) ∗ atPos ER (dC c (zsS 2)) 0 ∅ 0 ∗ cred (tallyAt (dC c (zsS 3)) () NT)
      ∗ atPos ER (dC c (zsS 3)) 0 ∅ 0 ∗ cred (tallyAt (dC c (zsS 4)) () NT) ∗ atPos ER (dC c (zsS 4)) 0 ∅ 0)
      ⊢ iprop((
        own c (sT 0) fullShare.left (sV m c 0) ∗ semVal (dC c (zsS 0)) 0 ∗ own c (sT 1) fullShare.left (sV m c 1) ∗ semVal (dC c (zsS 1)) 0
        ∗ own c (sT 2) fullShare.left (sV m c 2) ∗ semVal (dC c (zsS 2)) 0 ∗ own c (sT 3) fullShare.left (sV m c 3) ∗ semVal (dC c (zsS 3)) 0
        ∗ own c (sT 4) fullShare.left (sV m c 4) ∗ semVal (dC c (zsS 4)) 0 ∗ Ow (F := F) c 0
        -∗ Q ⟨⟩)
        -∗ WP c (k0_part26_skel (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13) Q) := by
  unfold k0_part26_skel
  simp only [semSignalWord, semWaitWord, Prog.lift, Prog.bind_op, Prog.bind_ret, Prog.pure_eq_ret, wp_deviceId]
  iintro ⟨#Hw, cs0, Ow, as0, cs1, as1, cs2, as2, cs3, as3, cs4, as4⟩ HK
  iapply (zsWait m c 0 rfl (credit_s 0)) $$ [cs0 Ow as0]
  · isplitr; · iexact Hw
    isplitl [cs0]; · iexact cs0
    isplitl [Ow]; · iexact Ow
    iexact as0
  iintro ⟨Sl0, vs0, Ow⟩
  iapply (zsWait m c 1 rfl (credit_s 1)) $$ [cs1 Ow as1]
  · isplitr; · iexact Hw
    isplitl [cs1]; · iexact cs1
    isplitl [Ow]; · iexact Ow
    iexact as1
  iintro ⟨Sl1, vs1, Ow⟩
  iapply (zsWait m c 2 rfl (credit_s 2)) $$ [cs2 Ow as2]
  · isplitr; · iexact Hw
    isplitl [cs2]; · iexact cs2
    isplitl [Ow]; · iexact Ow
    iexact as2
  iintro ⟨Sl2, vs2, Ow⟩
  iapply (zsWait m c 3 rfl (credit_s 3)) $$ [cs3 Ow as3]
  · isplitr; · iexact Hw
    isplitl [cs3]; · iexact cs3
    isplitl [Ow]; · iexact Ow
    iexact as3
  iintro ⟨Sl3, vs3, Ow⟩
  iapply (zsWait m c 4 rfl (credit_s 4)) $$ [cs4 Ow as4]
  · isplitr; · iexact Hw
    isplitl [cs4]; · iexact cs4
    isplitl [Ow]; · iexact Ow
    iexact as4
  iintro ⟨Sl4, vs4, Ow⟩
  iapply (wpRet c)
  iapply HK
  isplitl [Sl0]; · iexact Sl0
  isplitl [vs0]; · iexact vs0
  isplitl [Sl1]; · iexact Sl1
  isplitl [vs1]; · iexact vs1
  isplitl [Sl2]; · iexact Sl2
  isplitl [vs2]; · iexact vs2
  isplitl [Sl3]; · iexact Sl3
  isplitl [vs3]; · iexact vs3
  isplitl [Sl4]; · iexact Sl4
  isplitl [vs4]; · iexact vs4
  iexact Ow

theorem part27 {Q : (PUnit) → sProp 𝕄} :
    iprop(world m ∗
      cred (tallyAt (dC c (zsS 5)) () NT) ∗ Ow (F := F) c 0 ∗ atPos ER (dC c (zsS 5)) 0 ∅ 0 ∗ cred (tallyAt (dC c (zsS 6)) () NT)
      ∗ atPos ER (dC c (zsS 6)) 0 ∅ 0 ∗ cred (tallyAt (dC c (zsS 7)) () NT) ∗ atPos ER (dC c (zsS 7)) 0 ∅ 0 ∗ cred (tallyAt (dC c (xsS 0)) () NT)
      ∗ atPos ER (dC c (xsS 0)) 0 ∅ 0 ∗ cred (tallyAt (dC c (xsS 1)) () NT) ∗ atPos ER (dC c (xsS 1)) 0 ∅ 0)
      ⊢ iprop((
        own c (sT 5) fullShare.left (sV m c 5) ∗ semVal (dC c (zsS 5)) 0 ∗ own c (sT 6) fullShare.left (sV m c 6) ∗ semVal (dC c (zsS 6)) 0
        ∗ own c (sT 7) fullShare.left (sV m c 7) ∗ semVal (dC c (zsS 7)) 0 ∗ own c (oT 0 0) fullShare.left (oV m c 0) ∗ semVal (dC c (xsS 0)) 0
        ∗ own c (oT 0 0) fullShare.right.left (oV m c 0) ∗ semVal (dC c (xsS 1)) 0 ∗ Ow (F := F) c 0
        -∗ Q ⟨⟩)
        -∗ WP c (k0_part27_skel (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13) Q) := by
  unfold k0_part27_skel
  simp only [semSignalWord, semWaitWord, Prog.lift, Prog.bind_op, Prog.bind_ret, Prog.pure_eq_ret, wp_deviceId]
  iintro ⟨#Hw, cs5, Ow, as5, cs6, as6, cs7, as7, cx0, ax0, cx1, ax1⟩ HK
  iapply (zsWait m c 5 rfl (credit_s 5)) $$ [cs5 Ow as5]
  · isplitr; · iexact Hw
    isplitl [cs5]; · iexact cs5
    isplitl [Ow]; · iexact Ow
    iexact as5
  iintro ⟨Sl5, vs5, Ow⟩
  iapply (zsWait m c 6 rfl (credit_s 6)) $$ [cs6 Ow as6]
  · isplitr; · iexact Hw
    isplitl [cs6]; · iexact cs6
    isplitl [Ow]; · iexact Ow
    iexact as6
  iintro ⟨Sl6, vs6, Ow⟩
  iapply (zsWait m c 7 rfl (credit_s 7)) $$ [cs7 Ow as7]
  · isplitr; · iexact Hw
    isplitl [cs7]; · iexact cs7
    isplitl [Ow]; · iexact Ow
    iexact as7
  iintro ⟨Sl7, vs7, Ow⟩
  iapply (xsWait m c 0 rfl (credit_o 0 0)) $$ [cx0 Ow ax0]
  · isplitr; · iexact Hw
    isplitl [cx0]; · iexact cx0
    isplitl [Ow]; · iexact Ow
    iexact ax0
  iintro ⟨Oa0, vx0, Ow⟩
  iapply (xsWait m c 1 rfl (credit_o 0 0)) $$ [cx1 Ow ax1]
  · isplitr; · iexact Hw
    isplitl [cx1]; · iexact cx1
    isplitl [Ow]; · iexact Ow
    iexact ax1
  iintro ⟨Ob0, vx1, Ow⟩
  iapply (wpRet c)
  iapply HK
  isplitl [Sl5]; · iexact Sl5
  isplitl [vs5]; · iexact vs5
  isplitl [Sl6]; · iexact Sl6
  isplitl [vs6]; · iexact vs6
  isplitl [Sl7]; · iexact Sl7
  isplitl [vs7]; · iexact vs7
  isplitl [Oa0]; · iexact Oa0
  isplitl [vx0]; · iexact vx0
  isplitl [Ob0]; · iexact Ob0
  isplitl [vx1]; · iexact vx1
  iexact Ow

theorem part28 {Q : (PUnit) → sProp 𝕄} :
    iprop(world m ∗
      cred (tallyAt (dC c (xsS 2)) () NT) ∗ Ow (F := F) c 0 ∗ atPos ER (dC c (xsS 2)) 0 ∅ 0 ∗ cred (tallyAt (dC c (xsS 3)) () NT)
      ∗ atPos ER (dC c (xsS 3)) 0 ∅ 0 ∗ cred (tallyAt (dC c (xsS 4)) () NT) ∗ atPos ER (dC c (xsS 4)) 0 ∅ 0 ∗ cred (tallyAt (dC c (xsS 5)) () NT)
      ∗ atPos ER (dC c (xsS 5)) 0 ∅ 0 ∗ cred (tallyAt (dC c (xsS 6)) () NT) ∗ atPos ER (dC c (xsS 6)) 0 ∅ 0)
      ⊢ iprop((
        own c (oT 0 1) fullShare.left (oV m c 1) ∗ semVal (dC c (xsS 2)) 0 ∗ own c (oT 0 1) fullShare.right.left (oV m c 1) ∗ semVal (dC c (xsS 3)) 0
        ∗ own c (oT 0 2) fullShare.left (oV m c 2) ∗ semVal (dC c (xsS 4)) 0 ∗ own c (oT 0 2) fullShare.right.left (oV m c 2)
        ∗ semVal (dC c (xsS 5)) 0 ∗ own c (oT 0 3) fullShare.left (oV m c 3) ∗ semVal (dC c (xsS 6)) 0 ∗ Ow (F := F) c 0
        -∗ Q ⟨⟩)
        -∗ WP c (k0_part28_skel (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13) Q) := by
  unfold k0_part28_skel
  simp only [semSignalWord, semWaitWord, Prog.lift, Prog.bind_op, Prog.bind_ret, Prog.pure_eq_ret, wp_deviceId]
  iintro ⟨#Hw, cx2, Ow, ax2, cx3, ax3, cx4, ax4, cx5, ax5, cx6, ax6⟩ HK
  iapply (xsWait m c 2 rfl (credit_o 0 1)) $$ [cx2 Ow ax2]
  · isplitr; · iexact Hw
    isplitl [cx2]; · iexact cx2
    isplitl [Ow]; · iexact Ow
    iexact ax2
  iintro ⟨Oa1, vx2, Ow⟩
  iapply (xsWait m c 3 rfl (credit_o 0 1)) $$ [cx3 Ow ax3]
  · isplitr; · iexact Hw
    isplitl [cx3]; · iexact cx3
    isplitl [Ow]; · iexact Ow
    iexact ax3
  iintro ⟨Ob1, vx3, Ow⟩
  iapply (xsWait m c 4 rfl (credit_o 0 2)) $$ [cx4 Ow ax4]
  · isplitr; · iexact Hw
    isplitl [cx4]; · iexact cx4
    isplitl [Ow]; · iexact Ow
    iexact ax4
  iintro ⟨Oa2, vx4, Ow⟩
  iapply (xsWait m c 5 rfl (credit_o 0 2)) $$ [cx5 Ow ax5]
  · isplitr; · iexact Hw
    isplitl [cx5]; · iexact cx5
    isplitl [Ow]; · iexact Ow
    iexact ax5
  iintro ⟨Ob2, vx5, Ow⟩
  iapply (xsWait m c 6 rfl (credit_o 0 3)) $$ [cx6 Ow ax6]
  · isplitr; · iexact Hw
    isplitl [cx6]; · iexact cx6
    isplitl [Ow]; · iexact Ow
    iexact ax6
  iintro ⟨Oa3, vx6, Ow⟩
  iapply (wpRet c)
  iapply HK
  isplitl [Oa1]; · iexact Oa1
  isplitl [vx2]; · iexact vx2
  isplitl [Ob1]; · iexact Ob1
  isplitl [vx3]; · iexact vx3
  isplitl [Oa2]; · iexact Oa2
  isplitl [vx4]; · iexact vx4
  isplitl [Ob2]; · iexact Ob2
  isplitl [vx5]; · iexact vx5
  isplitl [Oa3]; · iexact Oa3
  isplitl [vx6]; · iexact vx6
  iexact Ow

theorem part29 {Q : (PUnit) → sProp 𝕄} :
    iprop(world m ∗
      cred (tallyAt (dC c (xsS 7)) () NT) ∗ Ow (F := F) c 0 ∗ atPos ER (dC c (xsS 7)) 0 ∅ 0
      ∗ Fl c (outS 0) (gT c 0 0) (uT c 0 0) fullShare (uV m c 0 0) ∗ Fl c (outS 1) (gT c 0 1) (uT c 0 1) fullShare (uV m c 0 1)
      ∗ Fl c (outS 2) (gT c 0 2) (uT c 0 2) fullShare (uV m c 0 2) ∗ Fl c (outS 3) (gT c 0 3) (uT c 0 3) fullShare (uV m c 0 3)
      ∗ Fl c (outS 4) (gT c 1 0) (uT c 1 0) fullShare (uV m c 1 0) ∗ Fl c (outS 5) (gT c 1 1) (uT c 1 1) fullShare (uV m c 1 1)
      ∗ Fl c (outS 6) (gT c 1 2) (uT c 1 2) fullShare (uV m c 1 2))
      ⊢ iprop((
        own c (oT 0 3) fullShare.right.left (oV m c 3) ∗ semVal (dC c (xsS 7)) 0 ∗ own c (uT c 0 0) fullShare (uV m c 0 0)
        ∗ own c (gT c 0 0) fullShare (uV m c 0 0) ∗ semVal (dC c (outS 0)) 0 ∗ own c (uT c 0 1) fullShare (uV m c 0 1)
        ∗ own c (gT c 0 1) fullShare (uV m c 0 1) ∗ semVal (dC c (outS 1)) 0 ∗ own c (uT c 0 2) fullShare (uV m c 0 2)
        ∗ own c (gT c 0 2) fullShare (uV m c 0 2) ∗ semVal (dC c (outS 2)) 0 ∗ own c (uT c 0 3) fullShare (uV m c 0 3)
        ∗ own c (gT c 0 3) fullShare (uV m c 0 3) ∗ semVal (dC c (outS 3)) 0 ∗ own c (uT c 1 0) fullShare (uV m c 1 0)
        ∗ own c (gT c 1 0) fullShare (uV m c 1 0) ∗ semVal (dC c (outS 4)) 0 ∗ own c (uT c 1 1) fullShare (uV m c 1 1)
        ∗ own c (gT c 1 1) fullShare (uV m c 1 1) ∗ semVal (dC c (outS 5)) 0 ∗ own c (uT c 1 2) fullShare (uV m c 1 2)
        ∗ own c (gT c 1 2) fullShare (uV m c 1 2) ∗ semVal (dC c (outS 6)) 0 ∗ Ow (F := F) c 0
        -∗ Q ⟨⟩)
        -∗ WP c (k0_part29_skel (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 c) Q) := by
  unfold k0_part29_skel
  simp only [semSignalWord, semWaitWord, Prog.lift, Prog.bind_op, Prog.bind_ret, Prog.pure_eq_ret, wp_deviceId]
  iintro ⟨#Hw, cx7, Ow, ax7, fo0, fo1, fo2, fo3, fo4, fo5, fo6⟩ HK
  iapply (xsWait m c 7 rfl (credit_o 0 3)) $$ [cx7 Ow ax7]
  · isplitr; · iexact Hw
    isplitl [cx7]; · iexact cx7
    isplitl [Ow]; · iexact Ow
    iexact ax7
  iintro ⟨Ob3, vx7, Ow⟩
  iapply (cpWait m c 0 (outS 0) (gT c 0 0) (uT c 0 0) (uT_at c 0 0 (k0_off4_eq c)) rfl rfl) $$ [fo0 Ow]
  · isplitr; · iexact Hw
    isplitl [fo0]; · iexact fo0
    iexact Ow
  iintro ⟨U0_0, G0_0, vo0, Ow⟩
  iapply (cpWait m c 0 (outS 1) (gT c 0 1) (uT c 0 1) (uT_at c 0 1 (k0_off6_eq c)) rfl rfl) $$ [fo1 Ow]
  · isplitr; · iexact Hw
    isplitl [fo1]; · iexact fo1
    iexact Ow
  iintro ⟨U0_1, G0_1, vo1, Ow⟩
  iapply (cpWait m c 0 (outS 2) (gT c 0 2) (uT c 0 2) (uT_at c 0 2 (k0_off8_eq c)) rfl rfl) $$ [fo2 Ow]
  · isplitr; · iexact Hw
    isplitl [fo2]; · iexact fo2
    iexact Ow
  iintro ⟨U0_2, G0_2, vo2, Ow⟩
  iapply (cpWait m c 0 (outS 3) (gT c 0 3) (uT c 0 3) (uT_at c 0 3 (k0_off10_eq c)) rfl rfl) $$ [fo3 Ow]
  · isplitr; · iexact Hw
    isplitl [fo3]; · iexact fo3
    iexact Ow
  iintro ⟨U0_3, G0_3, vo3, Ow⟩
  iapply (cpWait m c 0 (outS 4) (gT c 1 0) (uT c 1 0) (uT_at c 1 0 (k0_off12_eq c)) rfl rfl) $$ [fo4 Ow]
  · isplitr; · iexact Hw
    isplitl [fo4]; · iexact fo4
    iexact Ow
  iintro ⟨U1_0, G1_0, vo4, Ow⟩
  iapply (cpWait m c 0 (outS 5) (gT c 1 1) (uT c 1 1) (uT_at c 1 1 (k0_off14_eq c)) rfl rfl) $$ [fo5 Ow]
  · isplitr; · iexact Hw
    isplitl [fo5]; · iexact fo5
    iexact Ow
  iintro ⟨U1_1, G1_1, vo5, Ow⟩
  iapply (cpWait m c 0 (outS 6) (gT c 1 2) (uT c 1 2) (uT_at c 1 2 (k0_off16_eq c)) rfl rfl) $$ [fo6 Ow]
  · isplitr; · iexact Hw
    isplitl [fo6]; · iexact fo6
    iexact Ow
  iintro ⟨U1_2, G1_2, vo6, Ow⟩
  iapply (wpRet c)
  iapply HK
  isplitl [Ob3]; · iexact Ob3
  isplitl [vx7]; · iexact vx7
  isplitl [U0_0]; · iexact U0_0
  isplitl [G0_0]; · iexact G0_0
  isplitl [vo0]; · iexact vo0
  isplitl [U0_1]; · iexact U0_1
  isplitl [G0_1]; · iexact G0_1
  isplitl [vo1]; · iexact vo1
  isplitl [U0_2]; · iexact U0_2
  isplitl [G0_2]; · iexact G0_2
  isplitl [vo2]; · iexact vo2
  isplitl [U0_3]; · iexact U0_3
  isplitl [G0_3]; · iexact G0_3
  isplitl [vo3]; · iexact vo3
  isplitl [U1_0]; · iexact U1_0
  isplitl [G1_0]; · iexact G1_0
  isplitl [vo4]; · iexact vo4
  isplitl [U1_1]; · iexact U1_1
  isplitl [G1_1]; · iexact G1_1
  isplitl [vo5]; · iexact vo5
  isplitl [U1_2]; · iexact U1_2
  isplitl [G1_2]; · iexact G1_2
  isplitl [vo6]; · iexact vo6
  iexact Ow

theorem part30 {Q : (PUnit) → sProp 𝕄} :
    iprop(world m ∗
      Ow (F := F) c 0 ∗ Fl c (outS 7) (gT c 1 3) (uT c 1 3) fullShare (uV m c 1 3) ∗ Fl c (outS 8) (gT c 2 0) (uT c 2 0) fullShare (uV m c 2 0)
      ∗ Fl c (outS 9) (gT c 3 0) (uT c 3 0) fullShare (uV m c 3 0) ∗ Fl c (outS 10) (gT c 2 1) (uT c 2 1) fullShare (uV m c 2 1)
      ∗ Fl c (outS 11) (gT c 3 1) (uT c 3 1) fullShare (uV m c 3 1) ∗ Fl c (outS 12) (gT c 2 2) (uT c 2 2) fullShare (uV m c 2 2)
      ∗ Fl c (outS 13) (gT c 3 2) (uT c 3 2) fullShare (uV m c 3 2))
      ⊢ iprop((
        own c (uT c 1 3) fullShare (uV m c 1 3) ∗ own c (gT c 1 3) fullShare (uV m c 1 3) ∗ semVal (dC c (outS 7)) 0
        ∗ own c (uT c 2 0) fullShare (uV m c 2 0) ∗ own c (gT c 2 0) fullShare (uV m c 2 0) ∗ semVal (dC c (outS 8)) 0
        ∗ own c (uT c 3 0) fullShare (uV m c 3 0) ∗ own c (gT c 3 0) fullShare (uV m c 3 0) ∗ semVal (dC c (outS 9)) 0
        ∗ own c (uT c 2 1) fullShare (uV m c 2 1) ∗ own c (gT c 2 1) fullShare (uV m c 2 1) ∗ semVal (dC c (outS 10)) 0
        ∗ own c (uT c 3 1) fullShare (uV m c 3 1) ∗ own c (gT c 3 1) fullShare (uV m c 3 1) ∗ semVal (dC c (outS 11)) 0
        ∗ own c (uT c 2 2) fullShare (uV m c 2 2) ∗ own c (gT c 2 2) fullShare (uV m c 2 2) ∗ semVal (dC c (outS 12)) 0
        ∗ own c (uT c 3 2) fullShare (uV m c 3 2) ∗ own c (gT c 3 2) fullShare (uV m c 3 2) ∗ semVal (dC c (outS 13)) 0 ∗ Ow (F := F) c 0
        -∗ Q ⟨⟩)
        -∗ WP c (k0_part30_skel (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 c) Q) := by
  unfold k0_part30_skel
  simp only [semSignalWord, semWaitWord, Prog.lift, Prog.bind_op, Prog.bind_ret, Prog.pure_eq_ret, wp_deviceId]
  iintro ⟨#Hw, Ow, fo7, fo8, fo9, fo10, fo11, fo12, fo13⟩ HK
  iapply (cpWait m c 0 (outS 7) (gT c 1 3) (uT c 1 3) (uT_at c 1 3 (k0_off18_eq c)) rfl rfl) $$ [fo7 Ow]
  · isplitr; · iexact Hw
    isplitl [fo7]; · iexact fo7
    iexact Ow
  iintro ⟨U1_3, G1_3, vo7, Ow⟩
  iapply (cpWait m c 0 (outS 8) (gT c 2 0) (uT c 2 0) (uT_at c 2 0 (off20_2 c)) rfl rfl) $$ [fo8 Ow]
  · isplitr; · iexact Hw
    isplitl [fo8]; · iexact fo8
    iexact Ow
  iintro ⟨U2_0, G2_0, vo8, Ow⟩
  iapply (cpWait m c 0 (outS 9) (gT c 3 0) (uT c 3 0) (uT_at c 3 0 (off20_3 c)) rfl rfl) $$ [fo9 Ow]
  · isplitr; · iexact Hw
    isplitl [fo9]; · iexact fo9
    iexact Ow
  iintro ⟨U3_0, G3_0, vo9, Ow⟩
  iapply (cpWait m c 0 (outS 10) (gT c 2 1) (uT c 2 1) (uT_at c 2 1 (off22_2 c)) rfl rfl) $$ [fo10 Ow]
  · isplitr; · iexact Hw
    isplitl [fo10]; · iexact fo10
    iexact Ow
  iintro ⟨U2_1, G2_1, vo10, Ow⟩
  iapply (cpWait m c 0 (outS 11) (gT c 3 1) (uT c 3 1) (uT_at c 3 1 (off22_3 c)) rfl rfl) $$ [fo11 Ow]
  · isplitr; · iexact Hw
    isplitl [fo11]; · iexact fo11
    iexact Ow
  iintro ⟨U3_1, G3_1, vo11, Ow⟩
  iapply (cpWait m c 0 (outS 12) (gT c 2 2) (uT c 2 2) (uT_at c 2 2 (off24_2 c)) rfl rfl) $$ [fo12 Ow]
  · isplitr; · iexact Hw
    isplitl [fo12]; · iexact fo12
    iexact Ow
  iintro ⟨U2_2, G2_2, vo12, Ow⟩
  iapply (cpWait m c 0 (outS 13) (gT c 3 2) (uT c 3 2) (uT_at c 3 2 (off24_3 c)) rfl rfl) $$ [fo13 Ow]
  · isplitr; · iexact Hw
    isplitl [fo13]; · iexact fo13
    iexact Ow
  iintro ⟨U3_2, G3_2, vo13, Ow⟩
  iapply (wpRet c)
  iapply HK
  isplitl [U1_3]; · iexact U1_3
  isplitl [G1_3]; · iexact G1_3
  isplitl [vo7]; · iexact vo7
  isplitl [U2_0]; · iexact U2_0
  isplitl [G2_0]; · iexact G2_0
  isplitl [vo8]; · iexact vo8
  isplitl [U3_0]; · iexact U3_0
  isplitl [G3_0]; · iexact G3_0
  isplitl [vo9]; · iexact vo9
  isplitl [U2_1]; · iexact U2_1
  isplitl [G2_1]; · iexact G2_1
  isplitl [vo10]; · iexact vo10
  isplitl [U3_1]; · iexact U3_1
  isplitl [G3_1]; · iexact G3_1
  isplitl [vo11]; · iexact vo11
  isplitl [U2_2]; · iexact U2_2
  isplitl [G2_2]; · iexact G2_2
  isplitl [vo12]; · iexact vo12
  isplitl [U3_2]; · iexact U3_2
  isplitl [G3_2]; · iexact G3_2
  isplitl [vo13]; · iexact vo13
  iexact Ow

end Cert.CubeProof

end
-- ==== Proof.Body.lean ====
/-
# The whole body

The stretches joined: from what a device starts with, the body runs to its end, leaves the result's tiles at the named
contents, its arguments as they were and every semaphore at zero.
-/
module

public import proofs.«01_k».proof.Proof.PartsA
public import proofs.«01_k».proof.Proof.PartsB
public import proofs.«01_k».proof.Proof.PartsC

@[expose] public section

noncomputable section

namespace Cert.CubeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (c : Dev nD)

theorem fam2 (Φ : Fin 2 → sProp 𝕄) : bigSep Finset.univ Φ = iprop(Φ 0 ∗ Φ 1) :=
  bigSep_univ_eq_bigSepL [(0 : Fin 2), 1] (by decide) (by decide) Φ
theorem fam3 (Φ : Fin 3 → sProp 𝕄) : bigSep Finset.univ Φ = iprop(Φ 0 ∗ Φ 1 ∗ Φ 2) :=
  bigSep_univ_eq_bigSepL [(0 : Fin 3), 1, 2] (by decide) (by decide) Φ
theorem fam4 (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ
theorem fam6 (Φ : Fin 6 → sProp 𝕄) : bigSep Finset.univ Φ = iprop(Φ 0 ∗ Φ 1 ∗ Φ 2 ∗ Φ 3 ∗ Φ 4 ∗ Φ 5) :=
  bigSep_univ_eq_bigSepL [(0 : Fin 6), 1, 2, 3, 4, 5] (by decide) (by decide) Φ
theorem fam8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ
theorem fam16 (Φ : Fin 16 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [(0 : Fin 16), 1, 2, 3, 4, 5, 6, 7, 8, 9, 10, 11, 12, 13, 14, 15] (by decide) (by decide) Φ

/-- The arguments and the result buffer, in tiles. -/
def memPre : sProp 𝕄 :=
  iprop((bigSep Finset.univ fun k : Fin 4 => own c (dT c k) fullShare (dyV m c k))
    ∗ (bigSep Finset.univ fun k : Fin 4 => own c (wT k) fullShare (wV m c k))
    ∗ (bigSep Finset.univ fun t : Fin 4 => bigSep Finset.univ fun k : Fin 4 => anyT (F := F) c (uT c t k)))
/-- The tiles of the other buffers, those its neighbours write into packed for them. -/
def scrPre : sProp 𝕄 :=
  iprop((bigSep Finset.univ fun k : Fin 2 => anyT (F := F) c (yqT k))
    ∗ (bigSep Finset.univ fun k : Fin 2 => anyT (F := F) c (ybT k))
    ∗ (bigSep Finset.univ fun k : Fin 4 => anyT (F := F) c (fT k))
    ∗ (bigSep Finset.univ fun k : Fin 4 => anyT (F := F) c (bT k))
    ∗ (bigSep Finset.univ fun k : Fin 8 => anyT (F := F) c (sT k))
    ∗ (bigSep Finset.univ fun k : Fin 4 => anyT (F := F) c (oT 0 k))
    ∗ (bigSep Finset.univ fun t : Fin 4 => bigSep Finset.univ fun k : Fin 4 => anyT (F := F) c (gT c t k))
    ∗ barPay (F := F) (zp c) 0
    ∗ barPay (F := F) (xn c) 1
    ∗ barPay (F := F) (yn c) 2)
/-- The semaphores of its own copies. -/
def semPre : sProp 𝕄 :=
  iprop((bigSep Finset.univ fun k : Fin 6 => semVal (dC c (cpS k)) 0)
    ∗ (bigSep Finset.univ fun k : Fin 16 => semVal (dC c (outS k)) 0))
/-- Its places in the exchange. -/
def posPre : sProp 𝕄 :=
  iprop(atPos ER (barC c) 0 ∅ 0
    ∗ (bigSep Finset.univ fun k : Fin 8 => atPos ER (dC c (zsS k)) 0 ∅ 0)
    ∗ (bigSep Finset.univ fun k : Fin 8 => atPos ER (dC c (zrS k)) 0 ∅ 0)
    ∗ (bigSep Finset.univ fun k : Fin 8 => atPos ER (dC c (xsS k)) 0 ∅ 0)
    ∗ (bigSep Finset.univ fun k : Fin 8 => atPos ER (dC c (xrS k)) 0 ∅ 0))
/-- What lets it pay the cells it pays. -/
def tokPre : sProp 𝕄 :=
  iprop(dutyTok ER (barC (zp c)) 0 0
    ∗ dutyTok ER (barC (xn c)) 0 1
    ∗ dutyTok ER (barC (yn c)) 0 2
    ∗ (bigSep Finset.univ fun k : Fin 8 => dutyTok ER (dC c (zsS k)) 0 0)
    ∗ (bigSep Finset.univ fun k : Fin 8 => dutyTok ER (dC (zp c) (zrS k)) 0 0)
    ∗ (bigSep Finset.univ fun k : Fin 8 => dutyTok ER (dC c (xsS k)) 0 0)
    ∗ (bigSep Finset.univ fun k : Fin 8 => dutyTok ER (dC (nb k c) (xrS k)) 0 0))
/-- The credit of what its neighbours owe it. -/
def credPre : sProp 𝕄 :=
  iprop(cred (tallyAt (barC c) () 3)
    ∗ (bigSep Finset.univ fun k : Fin 8 => cred (tallyAt (dC c (zrS k)) () NT))
    ∗ (bigSep Finset.univ fun k : Fin 8 => cred (tallyAt (dC c (xrS k)) () NT)))
/-- The arguments as they were and the result at the named contents. -/
def memPost : sProp 𝕄 :=
  iprop((bigSep Finset.univ fun k : Fin 4 => own c (dT c k) fullShare (dyV m c k))
    ∗ (bigSep Finset.univ fun k : Fin 4 => own c (wT k) fullShare (wV m c k))
    ∗ (bigSep Finset.univ fun t : Fin 4 => bigSep Finset.univ fun k : Fin 4 => own c (uT c t k) fullShare (uV m c t k)))
/-- Every tile of the other buffers. -/
def scrPost : sProp 𝕄 :=
  iprop((bigSep Finset.univ fun k : Fin 2 => anyT (F := F) c (yT k))
    ∗ (bigSep Finset.univ fun k : Fin 2 => anyT (F := F) c (ybT k))
    ∗ (bigSep Finset.univ fun k : Fin 4 => anyT (F := F) c (fT k))
    ∗ (bigSep Finset.univ fun k : Fin 4 => anyT (F := F) c (bT k))
    ∗ (bigSep Finset.univ fun k : Fin 8 => anyT (F := F) c (sT k))
    ∗ (bigSep Finset.univ fun k : Fin 8 => anyT (F := F) c (rT k))
    ∗ (bigSep Finset.univ fun t : Fin 3 => bigSep Finset.univ fun k : Fin 4 => anyT (F := F) c (oT t k))
    ∗ (bigSep Finset.univ fun t : Fin 4 => bigSep Finset.univ fun k : Fin 4 => anyT (F := F) c (gT c t k)))
/-- Every semaphore at zero. -/
def semPost : sProp 𝕄 :=
  iprop((bigSep Finset.univ fun k : Fin 6 => semVal (dC c (cpS k)) 0)
    ∗ (bigSep Finset.univ fun k : Fin 8 => semVal (dC c (zsS k)) 0)
    ∗ (bigSep Finset.univ fun k : Fin 8 => semVal (dC c (zrS k)) 0)
    ∗ (bigSep Finset.univ fun k : Fin 8 => semVal (dC c (xsS k)) 0)
    ∗ (bigSep Finset.univ fun k : Fin 8 => semVal (dC c (xrS k)) 0)
    ∗ (bigSep Finset.univ fun k : Fin 16 => semVal (dC c (outS k)) 0)
    ∗ semVal (barC c) 0)
/-- What the body starts from. -/
def bodyPre : sProp 𝕄 := iprop(memPre m c ∗ scrPre c ∗ semPre c ∗ posPre c ∗ tokPre c ∗ credPre c)
/-- What it leaves. -/
def bodyPost : sProp 𝕄 := iprop(memPost m c ∗ scrPost c ∗ semPost c)

theorem wpBind {α β : Type} {p : Prog (TpuEff nD τ sig (Elt F) Λ₀ .tc) α} {f : α → Prog (TpuEff nD τ sig (Elt F) Λ₀ .tc) β} {Q : β → sProp 𝕄} :
    WP c p (fun a => WP c (f a) Q) ⊢ WP c (p >>= f) Q := by
  show wp _ _ _ _ _ ⊢ wp _ _ _ _ _
  rw [wp_bind]

theorem barPay0 : barPay (F := F) c 0 = iprop(anyT (F := F) (zp c) (rT 0) ∗ anyT (F := F) (zp c) (rT 1) ∗ anyT (F := F) (zp c) (rT 2) ∗ anyT (F := F) (zp c) (rT 3) ∗ anyT (F := F) (zp c) (rT 4) ∗ anyT (F := F) (zp c) (rT 5) ∗ anyT (F := F) (zp c) (rT 6) ∗ anyT (F := F) (zp c) (rT 7)) := fam8 _
theorem barPay1 : barPay (F := F) c 1 = iprop(anyT (F := F) (xn c) (oT 1 0) ∗ anyT (F := F) (xn c) (oT 1 1) ∗ anyT (F := F) (xn c) (oT 1 2) ∗ anyT (F := F) (xn c) (oT 1 3)) := fam4 _
theorem barPay2 : barPay (F := F) c 2 = iprop(anyT (F := F) (yn c) (oT 2 0) ∗ anyT (F := F) (yn c) (oT 2 1) ∗ anyT (F := F) (yn c) (oT 2 2) ∗ anyT (F := F) (yn c) (oT 2 3)) := fam4 _

theorem body {Q : PUnit → sProp 𝕄} :
    iprop(world m ∗ bodyPre m c ∗ Ow (F := F) c 19) ⊢ iprop((iprop(bodyPost m c ∗ Ow (F := F) c 0) -∗ Q ⟨⟩) -∗ WP c (cc0_body (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13) Q) := by
  rw [cc0_body_eq_skeleton]
  unfold cc0_body_skel bodyPre memPre scrPre semPre posPre tokPre credPre
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
  simp only [fam2, fam4, fam6, fam8, fam16]
  iintro ⟨#Hw, ⟨⟨⟨D0, D1, D2, D3⟩, ⟨W0, W1, W2, W3⟩, ⟨⟨U0_0, U0_1, U0_2, U0_3⟩, ⟨U1_0, U1_1, U1_2, U1_3⟩, ⟨U2_0, U2_1, U2_2, U2_3⟩, ⟨U3_0, U3_1, U3_2, U3_3⟩⟩⟩, ⟨⟨Y0, Y1⟩, ⟨B0, B1⟩, ⟨F0, F1, F2, F3⟩, ⟨C0, C1, C2, C3⟩, ⟨S0, S1, S2, S3, S4, S5, S6, S7⟩, ⟨O0, O1, O2, O3⟩, ⟨⟨G0_0, G0_1, G0_2, G0_3⟩, ⟨G1_0, G1_1, G1_2, G1_3⟩, ⟨G2_0, G2_1, G2_2, G2_3⟩, ⟨G3_0, G3_1, G3_2, G3_3⟩⟩, Pz, Px, Py⟩, ⟨⟨vc0, vc1, vc2, vc3, vc4, vc5⟩, ⟨vo0, vo1, vo2, vo3, vo4, vo5, vo6, vo7, vo8, vo9, vo10, vo11, vo12, vo13, vo14, vo15⟩⟩, ⟨ab, ⟨as0, as1, as2, as3, as4, as5, as6, as7⟩, ⟨ar0, ar1, ar2, ar3, ar4, ar5, ar6, ar7⟩, ⟨ax0, ax1, ax2, ax3, ax4, ax5, ax6, ax7⟩, ⟨ay0, ay1, ay2, ay3, ay4, ay5, ay6, ay7⟩⟩, ⟨tb0, tb1, tb2, ⟨ts0, ts1, ts2, ts3, ts4, ts5, ts6, ts7⟩, ⟨tr0, tr1, tr2, tr3, tr4, tr5, tr6, tr7⟩, ⟨tx0, tx1, tx2, tx3, tx4, tx5, tx6, tx7⟩, ⟨ty0, ty1, ty2, ty3, ty4, ty5, ty6, ty7⟩⟩, ⟨crb, ⟨cr0, cr1, cr2, cr3, cr4, cr5, cr6, cr7⟩, ⟨cy0, cy1, cy2, cy3, cy4, cy5, cy6, cy7⟩⟩⟩, Ow⟩ HK
  iapply (wpBind c)
  iapply (part1 m c) $$ [Y0 D0 vc0 F0 W0 vc2]
  · isplitr; · iexact Hw
    isplitl [Y0]; · iexact Y0
    isplitl [D0]; · iexact D0
    isplitl [vc0]; · iexact vc0
    isplitl [F0]; · iexact F0
    isplitl [W0]; · iexact W0
    iexact vc2
  iintro %v2 %v5 %v8 %v10 %v11 %v13 %v14 %v15 %v16 ⟨fy0, ff0⟩
  try dsimp only
  iapply (wpBind c)
  iapply (part2 m c) $$ [F1 W1 vc3 F2 W2 vc4 F3 W3 vc5 Y1 D1 vc1 Ow tb0 Pz tb1 Px]
  · isplitr; · iexact Hw
    isplitl [F1]; · iexact F1
    isplitl [W1]; · iexact W1
    isplitl [vc3]; · iexact vc3
    isplitl [F2]; · iexact F2
    isplitl [W2]; · iexact W2
    isplitl [vc4]; · iexact vc4
    isplitl [F3]; · iexact F3
    isplitl [W3]; · iexact W3
    isplitl [vc5]; · iexact vc5
    isplitl [Y1]; · iexact Y1
    isplitl [D1]; · iexact D1
    isplitl [vc1]; · iexact vc1
    isplitl [Ow]; · iexact Ow
    isplitl [tb0]; · iexact tb0
    isplitl [Pz]; · iexact Pz
    isplitl [tb1]; · iexact tb1
    iexact Px
  iintro ⟨ff1, ff2, ff3, fy1, Ow⟩
  try dsimp only
  iapply (wpBind c)
  iapply (part3 m c) $$ [Ow tb2 Py crb ab fy0 B0 ff0 C0]
  · isplitr; · iexact Hw
    isplitl [Ow]; · iexact Ow
    isplitl [tb2]; · iexact tb2
    isplitl [Py]; · iexact Py
    isplitl [crb]; · iexact crb
    isplitl [ab]; · iexact ab
    isplitl [fy0]; · iexact fy0
    isplitl [B0]; · iexact B0
    isplitl [ff0]; · iexact ff0
    iexact C0
  iintro ⟨P0, P1, P2, vb, D0, vc0, Y0, B0, W0, vc2, Ow, F0, C0⟩
  try dsimp only
  ihave P0 := (Entails.of_eq (barPay0 c)) $$ P0
  icases P0 with ⟨R0, R1, R2, R3, R4, R5, R6, R7⟩
  ihave P1 := (Entails.of_eq (barPay1 c)) $$ P1
  icases P1 with ⟨OX0, OX1, OX2, OX3⟩
  ihave P2 := (Entails.of_eq (barPay2 c)) $$ P2
  icases P2 with ⟨OY0, OY1, OY2, OY3⟩
  iapply (wpBind c)
  iapply (part4 m c) $$ [B0 C0 S0 Ow R0 ts0 tr0 ff1 C1]
  · isplitr; · iexact Hw
    isplitl [B0]; · iexact B0
    isplitl [C0]; · iexact C0
    isplitl [S0]; · iexact S0
    isplitl [Ow]; · iexact Ow
    isplitl [R0]; · iexact R0
    isplitl [ts0]; · iexact ts0
    isplitl [tr0]; · iexact tr0
    isplitl [ff1]; · iexact ff1
    iexact C1
  iintro ⟨B0, C0, S0, cs0, W1, vc3, Ow, F1, C1⟩
  try dsimp only
  iapply (wpBind c)
  iapply (part5 m c) $$ [B0 C1 S1 Ow R1 ts1 tr1 ff2 C2]
  · isplitr; · iexact Hw
    isplitl [B0]; · iexact B0
    isplitl [C1]; · iexact C1
    isplitl [S1]; · iexact S1
    isplitl [Ow]; · iexact Ow
    isplitl [R1]; · iexact R1
    isplitl [ts1]; · iexact ts1
    isplitl [tr1]; · iexact tr1
    isplitl [ff2]; · iexact ff2
    iexact C2
  iintro ⟨B0, C1, S1, cs1, W2, vc4, Ow, F2, C2⟩
  try dsimp only
  iapply (wpBind c)
  iapply (part6 m c) $$ [B0 C2 S2 Ow R2 ts2 tr2 ff3 C3]
  · isplitr; · iexact Hw
    isplitl [B0]; · iexact B0
    isplitl [C2]; · iexact C2
    isplitl [S2]; · iexact S2
    isplitl [Ow]; · iexact Ow
    isplitl [R2]; · iexact R2
    isplitl [ts2]; · iexact ts2
    isplitl [tr2]; · iexact tr2
    isplitl [ff3]; · iexact ff3
    iexact C3
  iintro ⟨B0, C2, S2, cs2, W3, vc5, Ow, F3, C3⟩
  try dsimp only
  iapply (wpBind c)
  iapply (part7 m c) $$ [B0 C3 S3 Ow R3 ts3 tr3 fy1 B1]
  · isplitr; · iexact Hw
    isplitl [B0]; · iexact B0
    isplitl [C3]; · iexact C3
    isplitl [S3]; · iexact S3
    isplitl [Ow]; · iexact Ow
    isplitl [R3]; · iexact R3
    isplitl [ts3]; · iexact ts3
    isplitl [tr3]; · iexact tr3
    isplitl [fy1]; · iexact fy1
    iexact B1
  iintro ⟨B0, C3, S3, cs3, D1, vc1, Ow, Y1, B1⟩
  try dsimp only
  iapply (wpBind c)
  iapply (part8 m c) $$ [B1 C0 S4 Ow R4 ts4 tr4 C1 S5]
  · isplitr; · iexact Hw
    isplitl [B1]; · iexact B1
    isplitl [C0]; · iexact C0
    isplitl [S4]; · iexact S4
    isplitl [Ow]; · iexact Ow
    isplitl [R4]; · iexact R4
    isplitl [ts4]; · iexact ts4
    isplitl [tr4]; · iexact tr4
    isplitl [C1]; · iexact C1
    iexact S5
  iintro ⟨C0, S4, cs4, Ow, B1, C1, S5⟩
  try dsimp only
  iapply (wpBind c)
  iapply (part9 m c) $$ [Ow S5 R5 ts5 tr5 B1 C2 S6]
  · isplitr; · iexact Hw
    isplitl [Ow]; · iexact Ow
    isplitl [S5]; · iexact S5
    isplitl [R5]; · iexact R5
    isplitl [ts5]; · iexact ts5
    isplitl [tr5]; · iexact tr5
    isplitl [B1]; · iexact B1
    isplitl [C2]; · iexact C2
    iexact S6
  iintro ⟨S5, cs5, Ow, B1, C2, S6⟩
  try dsimp only
  iapply (wpBind c)
  iapply (part10 m c) $$ [Ow S6 R6 ts6 tr6 B1 C3 S7 R7 ts7 tr7]
  · isplitr; · iexact Hw
    isplitl [Ow]; · iexact Ow
    isplitl [S6]; · iexact S6
    isplitl [R6]; · iexact R6
    isplitl [ts6]; · iexact ts6
    isplitl [tr6]; · iexact tr6
    isplitl [B1]; · iexact B1
    isplitl [C3]; · iexact C3
    isplitl [S7]; · iexact S7
    isplitl [R7]; · iexact R7
    isplitl [ts7]; · iexact ts7
    iexact tr7
  iintro ⟨S6, cs6, B1, C3, S7, cs7, Ow⟩
  try dsimp only
  iapply (wpBind c)
  iapply (part11 m c) $$ [Ow cr0 ar0 S0 O0 OX0 tx0 ty0]
  · isplitr; · iexact Hw
    isplitl [Ow]; · iexact Ow
    isplitl [cr0]; · iexact cr0
    isplitl [ar0]; · iexact ar0
    isplitl [S0]; · iexact S0
    isplitl [O0]; · iexact O0
    isplitl [OX0]; · iexact OX0
    isplitl [tx0]; · iexact tx0
    iexact ty0
  iintro ⟨vr0, S0, R0, O0, Ob0, cx0, Ow⟩
  try dsimp only
  iapply (wpBind c)
  iapply (part12 m c) $$ [Ow Ob0 OY0 tx1 ty1 O0 G0_0 U0_0 vo0 cr1 ar1 S1 O1]
  · isplitr; · iexact Hw
    isplitl [Ow]; · iexact Ow
    isplitl [Ob0]; · iexact Ob0
    isplitl [OY0]; · iexact OY0
    isplitl [tx1]; · iexact tx1
    isplitl [ty1]; · iexact ty1
    isplitl [O0]; · iexact O0
    isplitl [G0_0]; · iexact G0_0
    isplitl [U0_0]; · iexact U0_0
    isplitl [vo0]; · iexact vo0
    isplitl [cr1]; · iexact cr1
    isplitl [ar1]; · iexact ar1
    isplitl [S1]; · iexact S1
    iexact O1
  iintro %v347 %c2 ⟨cx1, O0, fo0, vr1, Ow, S1, R1, O1, Oa1, Ob1⟩
  try dsimp only
  iapply (wpBind c)
  iapply (part13 m c) $$ [Ow Oa1 OX1 tx2 ty2 Ob1 OY1 tx3 ty3 O1 G0_1 U0_1 vo1]
  · isplitr; · iexact Hw
    isplitl [Ow]; · iexact Ow
    isplitl [Oa1]; · iexact Oa1
    isplitl [OX1]; · iexact OX1
    isplitl [tx2]; · iexact tx2
    isplitl [ty2]; · iexact ty2
    isplitl [Ob1]; · iexact Ob1
    isplitl [OY1]; · iexact OY1
    isplitl [tx3]; · iexact tx3
    isplitl [ty3]; · iexact ty3
    isplitl [O1]; · iexact O1
    isplitl [G0_1]; · iexact G0_1
    isplitl [U0_1]; · iexact U0_1
    iexact vo1
  iintro %c4 ⟨cx2, cx3, Ow, O1, fo1⟩
  try dsimp only
  iapply (wpBind c)
  iapply (part14 m c) $$ [Ow cr2 ar2 S2 O2 OX2 tx4 ty4]
  · isplitr; · iexact Hw
    isplitl [Ow]; · iexact Ow
    isplitl [cr2]; · iexact cr2
    isplitl [ar2]; · iexact ar2
    isplitl [S2]; · iexact S2
    isplitl [O2]; · iexact O2
    isplitl [OX2]; · iexact OX2
    isplitl [tx4]; · iexact tx4
    iexact ty4
  iintro %v409 ⟨vr2, S2, R2, O2, Ob2, cx4, Ow⟩
  try dsimp only
  iapply (wpBind c)
  iapply (part15 m c) $$ [Ow Ob2 OY2 tx5 ty5 O2 G0_2 U0_2 vo2 cr3 ar3 S3]
  · isplitr; · iexact Hw
    isplitl [Ow]; · iexact Ow
    isplitl [Ob2]; · iexact Ob2
    isplitl [OY2]; · iexact OY2
    isplitl [tx5]; · iexact tx5
    isplitl [ty5]; · iexact ty5
    isplitl [O2]; · iexact O2
    isplitl [G0_2]; · iexact G0_2
    isplitl [U0_2]; · iexact U0_2
    isplitl [vo2]; · iexact vo2
    isplitl [cr3]; · iexact cr3
    isplitl [ar3]; · iexact ar3
    iexact S3
  iintro ⟨cx5, O2, fo2, R3, vr3, Ow, S3⟩
  try dsimp only
  iapply (wpBind c)
  iapply (part16 m c) $$ [R3 O3 Ow OX3 tx6 ty6 OY3 tx7 ty7]
  · isplitr; · iexact Hw
    isplitl [R3]; · iexact R3
    isplitl [O3]; · iexact O3
    isplitl [Ow]; · iexact Ow
    isplitl [OX3]; · iexact OX3
    isplitl [tx6]; · iexact tx6
    isplitl [ty6]; · iexact ty6
    isplitl [OY3]; · iexact OY3
    isplitl [tx7]; · iexact tx7
    iexact ty7
  iintro ⟨R3, cx6, cx7, Ow, O3⟩
  try dsimp only
  iapply (wpBind c)
  iapply (part17 m c) $$ [G0_3 U0_3 vo3 Ow cr4 ar4 S4 G1_0 U1_0 vo4]
  · isplitr; · iexact Hw
    isplitl [G0_3]; · iexact G0_3
    isplitl [U0_3]; · iexact U0_3
    isplitl [vo3]; · iexact vo3
    isplitl [Ow]; · iexact Ow
    isplitl [cr4]; · iexact cr4
    isplitl [ar4]; · iexact ar4
    isplitl [S4]; · iexact S4
    isplitl [G1_0]; · iexact G1_0
    isplitl [U1_0]; · iexact U1_0
    iexact vo4
  iintro %v502 ⟨fo3, vr4, Ow, S4, R4, fo4⟩
  try dsimp only
  iapply (wpBind c)
  iapply (part18 m c) $$ [Ow cr5 ar5 S5 G1_1 U1_1 vo5 cr6 ar6]
  · isplitr; · iexact Hw
    isplitl [Ow]; · iexact Ow
    isplitl [cr5]; · iexact cr5
    isplitl [ar5]; · iexact ar5
    isplitl [S5]; · iexact S5
    isplitl [G1_1]; · iexact G1_1
    isplitl [U1_1]; · iexact U1_1
    isplitl [vo5]; · iexact vo5
    isplitl [cr6]; · iexact cr6
    iexact ar6
  iintro ⟨vr5, S5, R5, fo5, R6, vr6, Ow⟩
  try dsimp only
  iapply (wpBind c)
  iapply (part19 m c) $$ [S6 R6 G1_2 U1_2 vo6 Ow cr7 ar7 S7 G1_3]
  · isplitr; · iexact Hw
    isplitl [S6]; · iexact S6
    isplitl [R6]; · iexact R6
    isplitl [G1_2]; · iexact G1_2
    isplitl [U1_2]; · iexact U1_2
    isplitl [vo6]; · iexact vo6
    isplitl [Ow]; · iexact Ow
    isplitl [cr7]; · iexact cr7
    isplitl [ar7]; · iexact ar7
    isplitl [S7]; · iexact S7
    iexact G1_3
  iintro ⟨S6, R6, fo6, vr7, Ow, S7, R7, G1_3⟩
  try dsimp only
  iapply (wpBind c)
  iapply (part20 m c) $$ [U1_3 G1_3 vo7 Ow cy0 ay0 G2_0 U2_0 vo8]
  · isplitr; · iexact Hw
    isplitl [U1_3]; · iexact U1_3
    isplitl [G1_3]; · iexact G1_3
    isplitl [vo7]; · iexact vo7
    isplitl [Ow]; · iexact Ow
    isplitl [cy0]; · iexact cy0
    isplitl [ay0]; · iexact ay0
    isplitl [G2_0]; · iexact G2_0
    isplitl [U2_0]; · iexact U2_0
    iexact vo8
  iintro ⟨fo7, vy0, Ow, Q0, fo8⟩
  try dsimp only
  iapply (wpBind c)
  iapply (part21 m c) $$ [Ow cy1 ay1 G3_0 U3_0 vo9 cy2 ay2]
  · isplitr; · iexact Hw
    isplitl [Ow]; · iexact Ow
    isplitl [cy1]; · iexact cy1
    isplitl [ay1]; · iexact ay1
    isplitl [G3_0]; · iexact G3_0
    isplitl [U3_0]; · iexact U3_0
    isplitl [vo9]; · iexact vo9
    isplitl [cy2]; · iexact cy2
    iexact ay2
  iintro %v623 ⟨vy1, Q1, fo9, vy2, Ow, Q2⟩
  try dsimp only
  iapply (wpBind c)
  iapply (part22 m c) $$ [G2_1 U2_1 vo10 Ow cy3 ay3 G3_1 U3_1 vo11]
  · isplitr; · iexact Hw
    isplitl [G2_1]; · iexact G2_1
    isplitl [U2_1]; · iexact U2_1
    isplitl [vo10]; · iexact vo10
    isplitl [Ow]; · iexact Ow
    isplitl [cy3]; · iexact cy3
    isplitl [ay3]; · iexact ay3
    isplitl [G3_1]; · iexact G3_1
    isplitl [U3_1]; · iexact U3_1
    iexact vo11
  iintro %c4 ⟨fo10, vy3, Ow, Q3, fo11⟩
  try dsimp only
  iapply (wpBind c)
  iapply (part23 m c) $$ [Ow cy4 ay4 G2_2 U2_2 vo12]
  · isplitr; · iexact Hw
    isplitl [Ow]; · iexact Ow
    isplitl [cy4]; · iexact cy4
    isplitl [ay4]; · iexact ay4
    isplitl [G2_2]; · iexact G2_2
    isplitl [U2_2]; · iexact U2_2
    iexact vo12
  iintro ⟨vy4, Ow, Q4, fo12⟩
  try dsimp only
  iapply (wpBind c)
  iapply (part24 m c) $$ [Ow cy5 ay5 G3_2 U3_2 vo13 cy6 ay6 G2_3]
  · isplitr; · iexact Hw
    isplitl [Ow]; · iexact Ow
    isplitl [cy5]; · iexact cy5
    isplitl [ay5]; · iexact ay5
    isplitl [G3_2]; · iexact G3_2
    isplitl [U3_2]; · iexact U3_2
    isplitl [vo13]; · iexact vo13
    isplitl [cy6]; · iexact cy6
    isplitl [ay6]; · iexact ay6
    iexact G2_3
  iintro ⟨vy5, Q5, fo13, vy6, Ow, Q6, G2_3⟩
  try dsimp only
  iapply (wpBind c)
  iapply (part25 m c) $$ [U2_3 G2_3 vo14 Ow cy7 ay7 G3_3 U3_3 vo15]
  · isplitr; · iexact Hw
    isplitl [U2_3]; · iexact U2_3
    isplitl [G2_3]; · iexact G2_3
    isplitl [vo14]; · iexact vo14
    isplitl [Ow]; · iexact Ow
    isplitl [cy7]; · iexact cy7
    isplitl [ay7]; · iexact ay7
    isplitl [G3_3]; · iexact G3_3
    isplitl [U3_3]; · iexact U3_3
    iexact vo15
  iintro ⟨fo14, vy7, Ow, Q7, fo15⟩
  try dsimp only
  iapply (wpBind c)
  iapply (part26 m c) $$ [cs0 Ow as0 cs1 as1 cs2 as2 cs3 as3 cs4 as4]
  · isplitr; · iexact Hw
    isplitl [cs0]; · iexact cs0
    isplitl [Ow]; · iexact Ow
    isplitl [as0]; · iexact as0
    isplitl [cs1]; · iexact cs1
    isplitl [as1]; · iexact as1
    isplitl [cs2]; · iexact cs2
    isplitl [as2]; · iexact as2
    isplitl [cs3]; · iexact cs3
    isplitl [as3]; · iexact as3
    isplitl [cs4]; · iexact cs4
    iexact as4
  iintro ⟨Sl0, vs0, Sl1, vs1, Sl2, vs2, Sl3, vs3, Sl4, vs4, Ow⟩
  try dsimp only
  iapply (wpBind c)
  iapply (part27 m c) $$ [cs5 Ow as5 cs6 as6 cs7 as7 cx0 ax0 cx1 ax1]
  · isplitr; · iexact Hw
    isplitl [cs5]; · iexact cs5
    isplitl [Ow]; · iexact Ow
    isplitl [as5]; · iexact as5
    isplitl [cs6]; · iexact cs6
    isplitl [as6]; · iexact as6
    isplitl [cs7]; · iexact cs7
    isplitl [as7]; · iexact as7
    isplitl [cx0]; · iexact cx0
    isplitl [ax0]; · iexact ax0
    isplitl [cx1]; · iexact cx1
    iexact ax1
  iintro ⟨Sl5, vs5, Sl6, vs6, Sl7, vs7, Oa0, vx0, Ob0, vx1, Ow⟩
  try dsimp only
  iapply (wpBind c)
  iapply (part28 m c) $$ [cx2 Ow ax2 cx3 ax3 cx4 ax4 cx5 ax5 cx6 ax6]
  · isplitr; · iexact Hw
    isplitl [cx2]; · iexact cx2
    isplitl [Ow]; · iexact Ow
    isplitl [ax2]; · iexact ax2
    isplitl [cx3]; · iexact cx3
    isplitl [ax3]; · iexact ax3
    isplitl [cx4]; · iexact cx4
    isplitl [ax4]; · iexact ax4
    isplitl [cx5]; · iexact cx5
    isplitl [ax5]; · iexact ax5
    isplitl [cx6]; · iexact cx6
    iexact ax6
  iintro ⟨Oa1, vx2, Ob1, vx3, Oa2, vx4, Ob2, vx5, Oa3, vx6, Ow⟩
  try dsimp only
  iapply (wpBind c)
  iapply (part29 m c) $$ [cx7 Ow ax7 fo0 fo1 fo2 fo3 fo4 fo5 fo6]
  · isplitr; · iexact Hw
    isplitl [cx7]; · iexact cx7
    isplitl [Ow]; · iexact Ow
    isplitl [ax7]; · iexact ax7
    isplitl [fo0]; · iexact fo0
    isplitl [fo1]; · iexact fo1
    isplitl [fo2]; · iexact fo2
    isplitl [fo3]; · iexact fo3
    isplitl [fo4]; · iexact fo4
    isplitl [fo5]; · iexact fo5
    iexact fo6
  iintro ⟨Ob3, vx7, U0_0, G0_0, vo0, U0_1, G0_1, vo1, U0_2, G0_2, vo2, U0_3, G0_3, vo3, U1_0, G1_0, vo4, U1_1, G1_1, vo5, U1_2, G1_2, vo6, Ow⟩
  try dsimp only
  iapply (wpBind c)
  iapply (part30 m c) $$ [Ow fo7 fo8 fo9 fo10 fo11 fo12 fo13]
  · isplitr; · iexact Hw
    isplitl [Ow]; · iexact Ow
    isplitl [fo7]; · iexact fo7
    isplitl [fo8]; · iexact fo8
    isplitl [fo9]; · iexact fo9
    isplitl [fo10]; · iexact fo10
    isplitl [fo11]; · iexact fo11
    isplitl [fo12]; · iexact fo12
    iexact fo13
  iintro ⟨U1_3, G1_3, vo7, U2_0, G2_0, vo8, U3_0, G3_0, vo9, U2_1, G2_1, vo10, U3_1, G3_1, vo11, U2_2, G2_2, vo12, U3_2, G3_2, vo13, Ow⟩
  try dsimp only
  simp only [Prog.lift, Prog.bind_op, Prog.bind_ret, Prog.pure_eq_ret]
  iapply (cpWait m c 0 (outS 14) (gT c 2 3) (uT c 2 3) (uT_at c 2 3 (off26_2 c)) rfl rfl) $$ [fo14 Ow]
  · isplitr; · iexact Hw
    isplitl [fo14]; · iexact fo14
    iexact Ow
  iintro ⟨U2_3, G2_3, vo14, Ow⟩
  iapply (cpWait m c 0 (outS 15) (gT c 3 3) (uT c 3 3) (uT_at c 3 3 (off26_3 c)) rfl rfl) $$ [fo15 Ow]
  · isplitr; · iexact Hw
    isplitl [fo15]; · iexact fo15
    iexact Ow
  iintro ⟨U3_3, G3_3, vo15, Ow⟩
  iapply (wpRet c)
  iapply HK
  unfold bodyPost memPost scrPost semPost
  simp only [fam2, fam3, fam4, fam6, fam8, fam16]
  ihave S0 := (owns_halves (c : Thread nD τ) (sT 0) fullShare (sV m c 0)).2 $$ [Sl0 S0]
  · isplitl [Sl0]; · iexact Sl0
    iexact S0
  ihave S1 := (owns_halves (c : Thread nD τ) (sT 1) fullShare (sV m c 1)).2 $$ [Sl1 S1]
  · isplitl [Sl1]; · iexact Sl1
    iexact S1
  ihave S2 := (owns_halves (c : Thread nD τ) (sT 2) fullShare (sV m c 2)).2 $$ [Sl2 S2]
  · isplitl [Sl2]; · iexact Sl2
    iexact S2
  ihave S3 := (owns_halves (c : Thread nD τ) (sT 3) fullShare (sV m c 3)).2 $$ [Sl3 S3]
  · isplitl [Sl3]; · iexact Sl3
    iexact S3
  ihave S4 := (owns_halves (c : Thread nD τ) (sT 4) fullShare (sV m c 4)).2 $$ [Sl4 S4]
  · isplitl [Sl4]; · iexact Sl4
    iexact S4
  ihave S5 := (owns_halves (c : Thread nD τ) (sT 5) fullShare (sV m c 5)).2 $$ [Sl5 S5]
  · isplitl [Sl5]; · iexact Sl5
    iexact S5
  ihave S6 := (owns_halves (c : Thread nD τ) (sT 6) fullShare (sV m c 6)).2 $$ [Sl6 S6]
  · isplitl [Sl6]; · iexact Sl6
    iexact S6
  ihave S7 := (owns_halves (c : Thread nD τ) (sT 7) fullShare (sV m c 7)).2 $$ [Sl7 S7]
  · isplitl [Sl7]; · iexact Sl7
    iexact S7
  ihave O0 := (oSplit c 0 (oV m c 0)).2 $$ [Oa0 Ob0 O0]
  · isplitl [Oa0]; · iexact Oa0
    isplitl [Ob0]; · iexact Ob0
    iexact O0
  ihave O1 := (oSplit c 1 (oV m c 1)).2 $$ [Oa1 Ob1 O1]
  · isplitl [Oa1]; · iexact Oa1
    isplitl [Ob1]; · iexact Ob1
    iexact O1
  ihave O2 := (oSplit c 2 (oV m c 2)).2 $$ [Oa2 Ob2 O2]
  · isplitl [Oa2]; · iexact Oa2
    isplitl [Ob2]; · iexact Ob2
    iexact O2
  ihave O3 := (oSplit c 3 (oV m c 3)).2 $$ [Oa3 Ob3 O3]
  · isplitl [Oa3]; · iexact Oa3
    isplitl [Ob3]; · iexact Ob3
    iexact O3
  isplitl [D0 D1 D2 D3 W0 W1 W2 W3 U0_0 U0_1 U0_2 U0_3 U1_0 U1_1 U1_2 U1_3 U2_0 U2_1 U2_2 U2_3 U3_0 U3_1 U3_2 U3_3 Y0 Y1 B0 B1 F0 F1 F2 F3 C0 C1 C2 C3 S0 S1 S2 S3 S4 S5 S6 S7 R0 R1 R2 R3 R4 R5 R6 R7 O0 O1 O2 O3 Q0 Q2 Q4 Q6 Q1 Q3 Q5 Q7 G0_0 G0_1 G0_2 G0_3 G1_0 G1_1 G1_2 G1_3 G2_0 G2_1 G2_2 G2_3 G3_0 G3_1 G3_2 G3_3 vc0 vc1 vc2 vc3 vc4 vc5 vs0 vs1 vs2 vs3 vs4 vs5 vs6 vs7 vr0 vr1 vr2 vr3 vr4 vr5 vr6 vr7 vx0 vx1 vx2 vx3 vx4 vx5 vx6 vx7 vy0 vy1 vy2 vy3 vy4 vy5 vy6 vy7 vo0 vo1 vo2 vo3 vo4 vo5 vo6 vo7 vo8 vo9 vo10 vo11 vo12 vo13 vo14 vo15 vb]
  · isplitl [D0 D1 D2 D3 W0 W1 W2 W3 U0_0 U0_1 U0_2 U0_3 U1_0 U1_1 U1_2 U1_3 U2_0 U2_1 U2_2 U2_3 U3_0 U3_1 U3_2 U3_3]
    · isplitl [D0 D1 D2 D3]
      · isplitl [D0]; · iexact D0
        isplitl [D1]; · iexact D1
        isplitl [D2]; · iexact D2
        iexact D3
      isplitl [W0 W1 W2 W3]
      · isplitl [W0]; · iexact W0
        isplitl [W1]; · iexact W1
        isplitl [W2]; · iexact W2
        iexact W3
      isplitl [U0_0 U0_1 U0_2 U0_3]
      · isplitl [U0_0]; · iexact U0_0
        isplitl [U0_1]; · iexact U0_1
        isplitl [U0_2]; · iexact U0_2
        iexact U0_3
      isplitl [U1_0 U1_1 U1_2 U1_3]
      · isplitl [U1_0]; · iexact U1_0
        isplitl [U1_1]; · iexact U1_1
        isplitl [U1_2]; · iexact U1_2
        iexact U1_3
      isplitl [U2_0 U2_1 U2_2 U2_3]
      · isplitl [U2_0]; · iexact U2_0
        isplitl [U2_1]; · iexact U2_1
        isplitl [U2_2]; · iexact U2_2
        iexact U2_3
      isplitl [U3_0]; · iexact U3_0
      isplitl [U3_1]; · iexact U3_1
      isplitl [U3_2]; · iexact U3_2
      iexact U3_3
    isplitl [Y0 Y1 B0 B1 F0 F1 F2 F3 C0 C1 C2 C3 S0 S1 S2 S3 S4 S5 S6 S7 R0 R1 R2 R3 R4 R5 R6 R7 O0 O1 O2 O3 Q0 Q2 Q4 Q6 Q1 Q3 Q5 Q7 G0_0 G0_1 G0_2 G0_3 G1_0 G1_1 G1_2 G1_3 G2_0 G2_1 G2_2 G2_3 G3_0 G3_1 G3_2 G3_3]
    · isplitl [Y0 Y1]
      · isplitl [Y0]; · iapply (toAny c) $$ Y0
        iapply (toAny c) $$ Y1
      isplitl [B0 B1]
      · isplitl [B0]; · iapply (toAny c) $$ B0
        iapply (toAny c) $$ B1
      isplitl [F0 F1 F2 F3]
      · isplitl [F0]; · iapply (toAny c) $$ F0
        isplitl [F1]; · iapply (toAny c) $$ F1
        isplitl [F2]; · iapply (toAny c) $$ F2
        iapply (toAny c) $$ F3
      isplitl [C0 C1 C2 C3]
      · isplitl [C0]; · iapply (toAny c) $$ C0
        isplitl [C1]; · iapply (toAny c) $$ C1
        isplitl [C2]; · iapply (toAny c) $$ C2
        iapply (toAny c) $$ C3
      isplitl [S0 S1 S2 S3 S4 S5 S6 S7]
      · isplitl [S0]; · iapply (toAny c) $$ S0
        isplitl [S1]; · iapply (toAny c) $$ S1
        isplitl [S2]; · iapply (toAny c) $$ S2
        isplitl [S3]; · iapply (toAny c) $$ S3
        isplitl [S4]; · iapply (toAny c) $$ S4
        isplitl [S5]; · iapply (toAny c) $$ S5
        isplitl [S6]; · iapply (toAny c) $$ S6
        iapply (toAny c) $$ S7
      isplitl [R0 R1 R2 R3 R4 R5 R6 R7]
      · isplitl [R0]; · iapply (toAny c) $$ R0
        isplitl [R1]; · iapply (toAny c) $$ R1
        isplitl [R2]; · iapply (toAny c) $$ R2
        isplitl [R3]; · iapply (toAny c) $$ R3
        isplitl [R4]; · iapply (toAny c) $$ R4
        isplitl [R5]; · iapply (toAny c) $$ R5
        isplitl [R6]; · iapply (toAny c) $$ R6
        iapply (toAny c) $$ R7
      isplitl [O0 O1 O2 O3 Q0 Q2 Q4 Q6 Q1 Q3 Q5 Q7]
      · isplitl [O0 O1 O2 O3]
        · isplitl [O0]; · iapply (toAny c) $$ O0
          isplitl [O1]; · iapply (toAny c) $$ O1
          isplitl [O2]; · iapply (toAny c) $$ O2
          iapply (toAny c) $$ O3
        isplitl [Q0 Q2 Q4 Q6]
        · isplitl [Q0]; · iapply (toAny c) $$ Q0
          isplitl [Q2]; · iapply (toAny c) $$ Q2
          isplitl [Q4]; · iapply (toAny c) $$ Q4
          iapply (toAny c) $$ Q6
        isplitl [Q1]; · iapply (toAny c) $$ Q1
        isplitl [Q3]; · iapply (toAny c) $$ Q3
        isplitl [Q5]; · iapply (toAny c) $$ Q5
        iapply (toAny c) $$ Q7
      isplitl [G0_0 G0_1 G0_2 G0_3]
      · isplitl [G0_0]; · iapply (toAny c) $$ G0_0
        isplitl [G0_1]; · iapply (toAny c) $$ G0_1
        isplitl [G0_2]; · iapply (toAny c) $$ G0_2
        iapply (toAny c) $$ G0_3
      isplitl [G1_0 G1_1 G1_2 G1_3]
      · isplitl [G1_0]; · iapply (toAny c) $$ G1_0
        isplitl [G1_1]; · iapply (toAny c) $$ G1_1
        isplitl [G1_2]; · iapply (toAny c) $$ G1_2
        iapply (toAny c) $$ G1_3
      isplitl [G2_0 G2_1 G2_2 G2_3]
      · isplitl [G2_0]; · iapply (toAny c) $$ G2_0
        isplitl [G2_1]; · iapply (toAny c) $$ G2_1
        isplitl [G2_2]; · iapply (toAny c) $$ G2_2
        iapply (toAny c) $$ G2_3
      isplitl [G3_0]; · iapply (toAny c) $$ G3_0
      isplitl [G3_1]; · iapply (toAny c) $$ G3_1
      isplitl [G3_2]; · iapply (toAny c) $$ G3_2
      iapply (toAny c) $$ G3_3
    isplitl [vc0 vc1 vc2 vc3 vc4 vc5]
    · isplitl [vc0]; · iexact vc0
      isplitl [vc1]; · iexact vc1
      isplitl [vc2]; · iexact vc2
      isplitl [vc3]; · iexact vc3
      isplitl [vc4]; · iexact vc4
      iexact vc5
    isplitl [vs0 vs1 vs2 vs3 vs4 vs5 vs6 vs7]
    · isplitl [vs0]; · iexact vs0
      isplitl [vs1]; · iexact vs1
      isplitl [vs2]; · iexact vs2
      isplitl [vs3]; · iexact vs3
      isplitl [vs4]; · iexact vs4
      isplitl [vs5]; · iexact vs5
      isplitl [vs6]; · iexact vs6
      iexact vs7
    isplitl [vr0 vr1 vr2 vr3 vr4 vr5 vr6 vr7]
    · isplitl [vr0]; · iexact vr0
      isplitl [vr1]; · iexact vr1
      isplitl [vr2]; · iexact vr2
      isplitl [vr3]; · iexact vr3
      isplitl [vr4]; · iexact vr4
      isplitl [vr5]; · iexact vr5
      isplitl [vr6]; · iexact vr6
      iexact vr7
    isplitl [vx0 vx1 vx2 vx3 vx4 vx5 vx6 vx7]
    · isplitl [vx0]; · iexact vx0
      isplitl [vx1]; · iexact vx1
      isplitl [vx2]; · iexact vx2
      isplitl [vx3]; · iexact vx3
      isplitl [vx4]; · iexact vx4
      isplitl [vx5]; · iexact vx5
      isplitl [vx6]; · iexact vx6
      iexact vx7
    isplitl [vy0 vy1 vy2 vy3 vy4 vy5 vy6 vy7]
    · isplitl [vy0]; · iexact vy0
      isplitl [vy1]; · iexact vy1
      isplitl [vy2]; · iexact vy2
      isplitl [vy3]; · iexact vy3
      isplitl [vy4]; · iexact vy4
      isplitl [vy5]; · iexact vy5
      isplitl [vy6]; · iexact vy6
      iexact vy7
    isplitl [vo0 vo1 vo2 vo3 vo4 vo5 vo6 vo7 vo8 vo9 vo10 vo11 vo12 vo13 vo14 vo15]
    · isplitl [vo0]; · iexact vo0
      isplitl [vo1]; · iexact vo1
      isplitl [vo2]; · iexact vo2
      isplitl [vo3]; · iexact vo3
      isplitl [vo4]; · iexact vo4
      isplitl [vo5]; · iexact vo5
      isplitl [vo6]; · iexact vo6
      isplitl [vo7]; · iexact vo7
      isplitl [vo8]; · iexact vo8
      isplitl [vo9]; · iexact vo9
      isplitl [vo10]; · iexact vo10
      isplitl [vo11]; · iexact vo11
      isplitl [vo12]; · iexact vo12
      isplitl [vo13]; · iexact vo13
      isplitl [vo14]; · iexact vo14
      iexact vo15
    iexact vb
  iexact Ow

end Cert.CubeProof

end
-- ==== Proof.Tiles.lean ====
/-
# Whole buffers and their tiles

Every buffer is the disjoint union of its tiles, so owning it whole is owning each tile: how the launch's buffers become
the body's tiles and how they are put together again afterwards.
-/
module

public import proofs.«01_k».proof.Proof.Body

@[expose] public section

noncomputable section

namespace Cert.CubeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (c : Dev nD)

/-! ## The tiles are disjoint and cover -/

theorem cov_of {s : Shape} {T : Type} [Fintype T] (r : T → Rect s) (h : ∀ i : s.Idx, ∃ t, i ∈ (r t).set) :
    (Finset.univ : Finset T).biUnion (fun t => (r t).set) = Finset.univ :=
  Finset.eq_univ_of_forall fun i => by obtain ⟨t, ht⟩ := h i; exact Finset.mem_biUnion.mpr ⟨t, Finset.mem_univ _, ht⟩

theorem rRow_disj (t t' : Fin 4) (h : t ≠ t') : Disjoint (rRow c t).set (rRow c t').set := Rect.unit_disjoint 0 (rowOff_sep c t t' h)
theorem rRow_cov : (Finset.univ : Finset (Fin 4)).biUnion (fun t => (rRow c t).set) = Finset.univ := cov_of _ fun i => by
  obtain ⟨t, h₁, h₂⟩ := rowOff_cov c (i 0).val (i 0).isLt
  exact ⟨t, Rect.mem_set_unit.mpr fun a => by
    fin_cases a
    · exact ⟨h₁, h₂⟩
    · exact ⟨Nat.zero_le _, by have := (i 1).isLt; simpa using this⟩⟩

theorem rW_disj (t t' : Fin 4) (h : t ≠ t') : Disjoint (rW t).set (rW t').set :=
  Rect.unit_disjoint 0 (by
    have : t.val ≠ t'.val := fun e => h (Fin.ext e)
    show 256 * t.val + 256 ≤ 256 * t'.val ∨ 256 * t'.val + 256 ≤ 256 * t.val; omega)
theorem rW_cov : (Finset.univ : Finset (Fin 4)).biUnion (fun t => (rW t).set) = Finset.univ := cov_of _ fun i => by
  have h0 : (i 0).val < 1024 := (i 0).isLt
  exact ⟨⟨(i 0).val / 256, by omega⟩, Rect.mem_set_unit.mpr fun a => by
    fin_cases a
    · show 256 * ((i 0).val / 256) ≤ (i 0).val ∧ (i 0).val < 256 * ((i 0).val / 256) + 256; omega
    · exact ⟨Nat.zero_le _, by have := (i 1).isLt; simpa using this⟩⟩

theorem rY_disj (t t' : Fin 2) (h : t ≠ t') : Disjoint (rY t).set (rY t').set :=
  Rect.unit_disjoint 0 (by
    have : t.val ≠ t'.val := fun e => h (Fin.ext e)
    show t.val + 1 ≤ t'.val ∨ t'.val + 1 ≤ t.val; omega)
theorem rY_cov : (Finset.univ : Finset (Fin 2)).biUnion (fun t => (rY t).set) = Finset.univ := cov_of _ fun i =>
  ⟨⟨(i 0).val, (i 0).isLt⟩, Rect.mem_set_unit.mpr fun a => by
    fin_cases a
    · show (i 0).val ≤ (i 0).val ∧ (i 0).val < (i 0).val + 1; omega
    · exact ⟨Nat.zero_le _, by have := (i 1).isLt; simpa using this⟩
    · exact ⟨Nat.zero_le _, by have := (i 2).isLt; simpa using this⟩⟩

theorem rS_disj (t t' : Fin 8) (h : t ≠ t') : Disjoint (rS t).set (rS t').set := by
  have hv : t.val ≠ t'.val := fun e => h (Fin.ext e)
  by_cases hq : t.val / 4 = t'.val / 4
  · exact Rect.unit_disjoint 1 (by
      show 256 * (t.val % 4) + 256 ≤ 256 * (t'.val % 4) ∨ 256 * (t'.val % 4) + 256 ≤ 256 * (t.val % 4); omega)
  · exact Rect.unit_disjoint 0 (by
      show 256 * (t.val / 4) + 256 ≤ 256 * (t'.val / 4) ∨ 256 * (t'.val / 4) + 256 ≤ 256 * (t.val / 4); omega)
theorem rS_cov : (Finset.univ : Finset (Fin 8)).biUnion (fun t => (rS t).set) = Finset.univ := cov_of _ fun i => by
  have h0 : (i 0).val < 512 := (i 0).isLt
  have h1 : (i 1).val < 1024 := (i 1).isLt
  exact ⟨⟨4 * ((i 0).val / 256) + (i 1).val / 256, by omega⟩, Rect.mem_set_unit.mpr fun a => by
    fin_cases a
    · show 256 * ((4 * ((i 0).val / 256) + (i 1).val / 256) / 4) ≤ (i 0).val ∧ (i 0).val < 256 * ((4 * ((i 0).val / 256) + (i 1).val / 256) / 4) + 256; omega
    · show 256 * ((4 * ((i 0).val / 256) + (i 1).val / 256) % 4) ≤ (i 1).val ∧ (i 1).val < 256 * ((4 * ((i 0).val / 256) + (i 1).val / 256) % 4) + 256; omega⟩

theorem rO_disj (t t' : Fin 3 × Fin 4) (h : t ≠ t') : Disjoint (rO t.1 t.2).set (rO t'.1 t'.2).set := by
  by_cases hq : t.1 = t'.1
  · have hv : t.2.val ≠ t'.2.val := fun e => h (Prod.ext hq (Fin.ext e))
    exact Rect.unit_disjoint 1 (by show 256 * t.2.val + 256 ≤ 256 * t'.2.val ∨ 256 * t'.2.val + 256 ≤ 256 * t.2.val; omega)
  · have hv : t.1.val ≠ t'.1.val := fun e => hq (Fin.ext e)
    exact Rect.unit_disjoint 0 (by show 256 * t.1.val + 256 ≤ 256 * t'.1.val ∨ 256 * t'.1.val + 256 ≤ 256 * t.1.val; omega)
theorem rO_cov : (Finset.univ : Finset (Fin 3 × Fin 4)).biUnion (fun t => (rO t.1 t.2).set) = Finset.univ := cov_of _ fun i => by
  have h0 : (i 0).val < 768 := (i 0).isLt
  have h1 : (i 1).val < 1024 := (i 1).isLt
  exact ⟨(⟨(i 0).val / 256, by omega⟩, ⟨(i 1).val / 256, by omega⟩), Rect.mem_set_unit.mpr fun a => by
    fin_cases a
    · show 256 * ((i 0).val / 256) ≤ (i 0).val ∧ (i 0).val < 256 * ((i 0).val / 256) + 256; omega
    · show 256 * ((i 1).val / 256) ≤ (i 1).val ∧ (i 1).val < 256 * ((i 1).val / 256) + 256; omega⟩

theorem rG_disj (t t' : Fin 4 × Fin 4) (h : t ≠ t') : Disjoint (rG c t.1 t.2).set (rG c t'.1 t'.2).set := by
  by_cases hq : t.1 = t'.1
  · have hv : t.2.val ≠ t'.2.val := fun e => h (Prod.ext hq (Fin.ext e))
    exact Rect.unit_disjoint 1 (by show 256 * t.2.val + 256 ≤ 256 * t'.2.val ∨ 256 * t'.2.val + 256 ≤ 256 * t.2.val; omega)
  · exact Rect.unit_disjoint 0 (rowOff_sep c t.1 t'.1 hq)
theorem rG_cov : (Finset.univ : Finset (Fin 4 × Fin 4)).biUnion (fun t => (rG c t.1 t.2).set) = Finset.univ := cov_of _ fun i => by
  obtain ⟨t, h₁, h₂⟩ := rowOff_cov c (i 0).val (i 0).isLt
  have h1 : (i 1).val < 1024 := (i 1).isLt
  exact ⟨(t, ⟨(i 1).val / 256, by omega⟩), Rect.mem_set_unit.mpr fun a => by
    fin_cases a
    · exact ⟨h₁, h₂⟩
    · show 256 * ((i 1).val / 256) ≤ (i 1).val ∧ (i 1).val < 256 * ((i 1).val / 256) + 256; omega⟩

/-! ## At any contents -/

section Any
variable {sp : Space} {sh : Shape} {e : EltTy} (M : Memref sig .tc sp sh e) {T : Type} [Fintype T] [DecidableEq T] (r : T → Rect sh)
  (hr : ∀ t a, (r t).stride a = 1)

theorem splitAny (hd : ∀ t t', t ≠ t' → Disjoint (r t).set (r t').set)
    (hc : (Finset.univ : Finset T).biUnion (fun t => (r t).set) = Finset.univ) :
    anyT (F := F) c M ⊢ bigSep Finset.univ fun t => anyT (F := F) c (M.slice (r t) (hr t)) := by
  unfold anyT
  iintro ⟨%X, H⟩
  iapply (show own c M fullShare X ⊢ bigSep Finset.univ fun t => iprop(∃ X, own (F := F) c (M.slice (r t) (hr t)) fullShare X) from
    (owns_rects (c : Thread nD τ) M fullShare r hr hd hc X).trans (bigSep_mono fun t _ => toAny c))
  iexact H

theorem joinAny (hd : ∀ t t', t ≠ t' → Disjoint (r t).set (r t').set)
    (hc : (Finset.univ : Finset T).biUnion (fun t => (r t).set) = Finset.univ) :
    (bigSep Finset.univ fun t => anyT (F := F) c (M.slice (r t) (hr t))) ⊢ anyT (F := F) c M := by
  unfold anyT
  refine (bigSep_mono fun t _ => (ownsSat_true (c : Thread nD τ) (M.slice (r t) (hr t)) fullShare).2).trans ?_
  exact (ownsSat_of_rects (c : Thread nD τ) M fullShare r hr hd hc (fun _ _ => True)).trans (ownsSat_any _ _ _)
end Any

theorem wholeAny (b : Ref sig .tc) :
    iprop(∃ f : Buf (Elt F) ((c : Thread nD τ).loc b), ((c : Thread nD τ).loc b) ↦{fullShare} f) ⊢ anyT (F := F) c (Memref.whole b) := by
  unfold anyT
  iintro ⟨%f, H⟩
  iexists f
  iapply (Entails.of_eq (owns_whole (c : Thread nD τ) b fullShare f).symm)
  iexact H
theorem anyWhole (b : Ref sig .tc) :
    anyT (F := F) c (Memref.whole b) ⊢ iprop(∃ f : Buf (Elt F) ((c : Thread nD τ).loc b), ((c : Thread nD τ).loc b) ↦{fullShare} f) := by
  unfold anyT
  iintro ⟨%f, H⟩
  iexists f
  iapply (Entails.of_eq (owns_whole (c : Thread nD τ) b fullShare f))
  iexact H

/-- A row block's place, seen without its leading axis of one. -/
theorem yFlat (i : Fin 2) : anyT (F := F) c (yT i) ⊢ anyT (F := F) c (yqT i) := by
  unfold anyT own owns
  iintro ⟨%X, %f, %hf, H⟩
  iexists (yqT i).view.read (Elt F) f
  iexists f
  isplitr; · ipureintro; rfl
  iapply (Entails.of_eq (show ((yT i).view.loc (c : Thread nD τ) ↦[(yT i).view.set]{fullShare} f : sProp 𝕄) = ((yqT i).view.loc (c : Thread nD τ) ↦[(yqT i).view.set]{fullShare} f) from
    congrArg (fun S => ((yT i).view.loc (c : Thread nD τ) ↦[S]{fullShare} f : sProp 𝕄)) (View.set_reshape _ _).symm))
  iexact H

/-! ## The buffers of a device -/

/-- The other buffers, whole, in the tiles the body takes, -/
theorem scr_in : (Pipeline.scopedRest (Ix := Unit) (Name := ℕ) (U := UU) (Lvl := ℕ) (Val := Elt F) cfg0.spec c : sProp 𝕄) ⊢ scrPre (F := F) c := by
  rw [scopedRest0_eq]
  unfold scrPre
  iintro ⟨H0, H1, H2, H3, H4, H5, H6, H7⟩
  isplitl [H0]
  · iapply (((wholeAny c cc0_scratch0).trans (splitAny c _ rY (fun _ _ => rfl) rY_disj rY_cov)).trans (bigSep_mono fun k _ => yFlat c k)); iexact H0
  isplitl [H1]; · iapply ((wholeAny c cc0_scratch1).trans (splitAny c _ rY (fun _ _ => rfl) rY_disj rY_cov)); iexact H1
  isplitl [H2]; · iapply ((wholeAny c cc0_scratch2).trans (splitAny c _ rW (fun _ _ => rfl) rW_disj rW_cov)); iexact H2
  isplitl [H3]; · iapply ((wholeAny c cc0_scratch3).trans (splitAny c _ rW (fun _ _ => rfl) rW_disj rW_cov)); iexact H3
  isplitl [H4]; · iapply ((wholeAny c cc0_scratch4).trans (splitAny c _ rS (fun _ _ => rfl) rS_disj rS_cov)); iexact H4
  ihave HO := (((wholeAny c cc0_scratch6).trans (splitAny c _ (fun t : Fin 3 × Fin 4 => rO t.1 t.2) (fun _ _ => rfl) rO_disj rO_cov)).trans
    (Entails.of_eq ((bigSep_univ_prod fun t : Fin 3 × Fin 4 => anyT (F := F) c (oT t.1 t.2)).trans (fam3 _)))) $$ H6
  icases HO with ⟨O0, O1, O2⟩
  isplitl [O0]; · iexact O0
  isplitl [H7]
  · iapply (((wholeAny c cc0_scratch7).trans (splitAny c _ (fun t : Fin 4 × Fin 4 => rG c t.1 t.2) (fun _ _ => rfl) (rG_disj c) (rG_cov c))).trans
      (Entails.of_eq (bigSep_univ_prod fun t : Fin 4 × Fin 4 => anyT (F := F) c (gT c t.1 t.2))))
    iexact H7
  isplitl [H5]
  · iapply (Entails.of_eq (show (bigSep Finset.univ fun k : Fin 8 => anyT (F := F) c (rT k)) = barPay (F := F) (zp c) 0 by unfold barPay; rw [zp_zp]))
    iapply ((wholeAny c cc0_scratch5).trans (splitAny c _ rS (fun _ _ => rfl) rS_disj rS_cov)); iexact H5
  isplitl [O1]
  · iapply (Entails.of_eq (show (bigSep Finset.univ fun k : Fin 4 => anyT (F := F) c (oT 1 k)) = barPay (F := F) (xn c) 1 by unfold barPay; rw [xn_xn]))
    iexact O1
  iapply (Entails.of_eq (show (bigSep Finset.univ fun k : Fin 4 => anyT (F := F) c (oT 2 k)) = barPay (F := F) (yn c) 2 by unfold barPay; rw [yn_yn]))
  iexact O2

/-- and whole again. -/
theorem scr_out : scrPost (F := F) c ⊢ (Pipeline.scopedRest (Ix := Unit) (Name := ℕ) (U := UU) (Lvl := ℕ) (Val := Elt F) cfg0.spec c : sProp 𝕄) := by
  rw [scopedRest0_eq]
  unfold scrPost
  iintro ⟨H0, H1, H2, H3, H4, H5, H6, H7⟩
  isplitl [H0]; · iapply ((joinAny c _ rY (fun _ _ => rfl) rY_disj rY_cov).trans (anyWhole c cc0_scratch0)); iexact H0
  isplitl [H1]; · iapply ((joinAny c _ rY (fun _ _ => rfl) rY_disj rY_cov).trans (anyWhole c cc0_scratch1)); iexact H1
  isplitl [H2]; · iapply ((joinAny c _ rW (fun _ _ => rfl) rW_disj rW_cov).trans (anyWhole c cc0_scratch2)); iexact H2
  isplitl [H3]; · iapply ((joinAny c _ rW (fun _ _ => rfl) rW_disj rW_cov).trans (anyWhole c cc0_scratch3)); iexact H3
  isplitl [H4]; · iapply ((joinAny c _ rS (fun _ _ => rfl) rS_disj rS_cov).trans (anyWhole c cc0_scratch4)); iexact H4
  isplitl [H5]; · iapply ((joinAny c _ rS (fun _ _ => rfl) rS_disj rS_cov).trans (anyWhole c cc0_scratch5)); iexact H5
  isplitl [H6]
  · iapply ((Entails.of_eq (bigSep_univ_prod fun t : Fin 3 × Fin 4 => anyT (F := F) c (oT t.1 t.2)).symm).trans
      ((joinAny c _ (fun t : Fin 3 × Fin 4 => rO t.1 t.2) (fun _ _ => rfl) rO_disj rO_cov).trans (anyWhole c cc0_scratch6)))
    iexact H6
  iapply ((Entails.of_eq (bigSep_univ_prod fun t : Fin 4 × Fin 4 => anyT (F := F) c (gT c t.1 t.2)).symm).trans
    ((joinAny c _ (fun t : Fin 4 × Fin 4 => rG c t.1 t.2) (fun _ _ => rfl) (rG_disj c) (rG_cov c)).trans (anyWhole c cc0_scratch7)))
  iexact H7

/-- The arguments and the result buffer in tiles, -/
theorem mem_in : (Pipeline.unscopedRest (Ix := Unit) (Name := ℕ) (U := UU) (Lvl := ℕ) cfg0.spec c (fun b => m ((c : Thread nD τ).loc b)) : sProp 𝕄)
    ⊢ memPre m c := by
  rw [unscopedRest0_eq]
  unfold memPre
  iintro ⟨H0, H1, H2⟩
  isplitl [H0]
  · iapply ((Entails.of_eq (owns_whole (c : Thread nD τ) main_arg0 fullShare _).symm).trans
      (owns_rects (c : Thread nD τ) (Memref.whole main_arg0) fullShare (rRow c) (fun _ _ => rfl) (rRow_disj c) (rRow_cov c) _))
    iexact H0
  isplitl [H1]
  · iapply ((Entails.of_eq (owns_whole (c : Thread nD τ) main_arg1 fullShare _).symm).trans
      (owns_rects (c : Thread nD τ) (Memref.whole main_arg1) fullShare rW (fun _ _ => rfl) rW_disj rW_cov _))
    iexact H1
  iapply (((wholeAny c main_v1).trans (splitAny c _ (fun t : Fin 4 × Fin 4 => rG c t.1 t.2) (fun _ _ => rfl) (rG_disj c) (rG_cov c))).trans
    (Entails.of_eq (bigSep_univ_prod fun t : Fin 4 × Fin 4 => anyT (F := F) c (uT c t.1 t.2))))
  iexists _; iexact H2

/-- What a device's result buffer holds at the end, tile by tile. -/
def OutOK (X : Buf (Elt F) ((c : Thread nD τ).loc main_v1)) : Prop := ∀ t k : Fin 4, ∀ j, X ((rG c t k).emb j) = uV m c t k j

/-- and whole again: the arguments unchanged, the result at the named contents. -/
def memEnd : sProp 𝕄 :=
  iprop((((c : Thread nD τ).loc main_arg0) ↦{fullShare} m ((c : Thread nD τ).loc main_arg0))
    ∗ (((c : Thread nD τ).loc main_arg1) ↦{fullShare} m ((c : Thread nD τ).loc main_arg1))
    ∗ ∃ X : Buf (Elt F) ((c : Thread nD τ).loc main_v1), ⌜OutOK m c X⌝ ∗ (((c : Thread nD τ).loc main_v1) ↦{fullShare} X))

theorem mem_out : memPost m c ⊢ memEnd m c := by
  unfold memPost memEnd
  iintro ⟨H0, H1, H2⟩
  isplitl [H0]
  · iapply ((owns_of_rects (c : Thread nD τ) (Memref.whole main_arg0) fullShare (rRow c) (fun _ _ => rfl) (rRow_disj c) (rRow_cov c) _).trans
      (Entails.of_eq (owns_whole (c : Thread nD τ) main_arg0 fullShare _)))
    iexact H0
  isplitl [H1]
  · iapply ((owns_of_rects (c : Thread nD τ) (Memref.whole main_arg1) fullShare rW (fun _ _ => rfl) rW_disj rW_cov _).trans
      (Entails.of_eq (owns_whole (c : Thread nD τ) main_arg1 fullShare _)))
    iexact H1
  ihave H := ((((Entails.of_eq (bigSep_univ_prod fun t : Fin 4 × Fin 4 => own c (uT c t.1 t.2) fullShare (uV m c t.1 t.2)).symm).trans
    (bigSep_mono fun t _ => ownsSat_intro (c : Thread nD τ) (uT c t.1 t.2) fullShare (Φ := fun Y => Y = uV m c t.1 t.2) rfl)).trans
    (ownsSat_of_rects (c : Thread nD τ) (Memref.whole main_v1) fullShare (fun t : Fin 4 × Fin 4 => rG c t.1 t.2) (fun _ _ => rfl) (rG_disj c) (rG_cov c)
      (fun t Y => Y = uV m c t.1 t.2))).trans (ownsSat_elim _ _ _ _)) $$ H2
  icases H with ⟨%X, %hX, H⟩
  iexists X
  isplitr
  · ipureintro; exact fun t k j => congrFun (hX (t, k)) j
  iapply (Entails.of_eq (owns_whole (c : Thread nD τ) main_v1 fullShare X))
  iexact H

end Cert.CubeProof

end
-- ==== Proof.Launch.lean ====
/-
# The launch and the whole run

The cells of the exchange opened on all devices at once, their tokens dealt to the devices that pay them, the debts'
credit handed to the devices that are owed; then `@main` on all eight devices, from any memory, for any float values.
-/
module

public import proofs.«01_k».proof.Proof.Tiles
public import proofs.«01_k».proof.Proof.Gen.KernelIdeal.Points
public import Idealize.ShloMosaic.Lib.Pipeline.CollectiveSegs

@[expose] public section

noncomputable section

namespace Cert.CubeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (ρ : Dev nD → PrngReg)

/-! ## The pipeline's data: one point, no window -/

def s₀ : MemSt nD τ sig (Elt F) := ⟨m, fun _ => 0, ρ⟩

def dats (_ : Fin 1) (c : Dev nD) : Pipeline.Dat τ (Elt F) Unit ℕ UU ℕ cfg0 c where
  A w := m ((cfg0.win w).arr.view.loc (c : Thread nD τ))
  after w _ := w.elim0
  Φ t := match t with
    | ⟨0, _⟩ => iprop(world m ∗ bodyPre m c)
    | ⟨_ + 1, _⟩ => bodyPost m c
  q _ := fullShare
  owed t := match t with
    | ⟨0, _⟩ => owe c 19
    | ⟨_ + 1, _⟩ => 0

theorem owes_in (c : Dev nD) : (dats m 0 c).owesAt () t0_0.castSucc ⊢ Ow (F := F) c 19 := by
  unfold Pipeline.Dat.owesAt Pipeline.owesWithin Ow
  iintro ⟨%W, -, H⟩
  iexists W
  iexact H
theorem owes_out (c : Dev nD) : Ow (F := F) c 0 ⊢ (dats m 0 c).owesAt () t0_0.succ := by
  unfold Pipeline.Dat.owesAt Pipeline.owesWithin Ow
  iintro ⟨%W, H⟩
  iexists W
  isplitr
  · ipureintro; exact fun _ _ => Or.inl trivial
  iexact H

theorem bigSep_W0 (Φ : Fin cfg0.W → sProp 𝕄) : bigSep Finset.univ Φ = iprop(emp) := by
  rw [show (Finset.univ : Finset (Fin cfg0.W)) = ∅ from rfl, BI.bigSep_empty]; rfl

theorem body_obligation (c : Dev nD) : Pipeline.BodyObligationLoose (dats (F := F) m 0 c) (defs₀ (F := F)) 𝒱₀ () Set.univ := fun t => by
  rw [fin_N0 t]
  rw [bigSep_W0, bigSep_W0]
  have hd : defs₀ (F := F) .tc cfg0.body (cfg0.bodyArgs t0_0 (cfg0.slots t0_0)) = bodyAt0 t0_0 := rfl
  rw [hd]
  generalize hb : bodyAt0 (F := F) t0_0 = p
  show iprop((world m ∗ bodyPre m c) ∗ (dats m 0 c).owesAt () t0_0.castSucc ∗ emp)
    ⊢ WP c p fun _ => iprop(bodyPost m c ∗ (dats m 0 c).owesAt () t0_0.succ ∗ emp)
  iintro ⟨⟨Hworld, Hpre⟩, Ho, Hw⟩
  ihave Ho := (owes_in m c) $$ Ho
  iapply (show iprop(world m ∗ bodyPre m c ∗ Ow (F := F) c 19) ⊢ iprop((iprop(bodyPost m c ∗ Ow (F := F) c 0)
      -∗ iprop(bodyPost m c ∗ (dats m 0 c).owesAt () t0_0.succ ∗ emp)) -∗ WP c p fun _ => iprop(bodyPost m c ∗ (dats m 0 c).owesAt () t0_0.succ ∗ emp)) from
    hb ▸ body m c (Q := fun _ => iprop(bodyPost m c ∗ (dats m 0 c).owesAt () t0_0.succ ∗ emp))) $$ [Hworld Hpre Ho] [Hw]
  · isplitl [Hworld]; · iexact Hworld
    isplitl [Hpre]; · iexact Hpre
    iexact Ho
  · iintro ⟨Hpost, Ho⟩
    isplitl [Hpost]; · iexact Hpost
    isplitl [Ho]; · iapply (owes_out m c); iexact Ho
    iempintro

/-! ## The semaphores and the cells, by kind -/

abbrev osem : Fin 54 → SemLoc sig := fun q => .dma q
theorem ownSemFacts : Pipeline.OwnSemFacts cfg0.spec osem := by decide

theorem segs {n a b : ℕ} (f : Fin a → Fin n) (g : Fin b → Fin n) (h : a + b = n) (hf : ∀ i, (f i).val = i.val) (hg : ∀ i, (g i).val = a + i.val)
    (Φ : Fin n → sProp 𝕄) : bigSep Finset.univ Φ = iprop((bigSep Finset.univ fun i => Φ (f i)) ∗ bigSep Finset.univ fun i => Φ (g i)) := by
  subst h
  rw [bigSep_univ_equiv finSumFinEquiv Φ, bigSep_univ_sum]
  have e₁ (i : Fin a) : finSumFinEquiv (Sum.inl i) = f i := Fin.ext (by rw [hf]; rfl)
  have e₂ (i : Fin b) : finSumFinEquiv (Sum.inr i) = g i := Fin.ext (by rw [hg]; rfl)
  simp only [e₁, e₂]; rfl

/-- All DMA semaphores: the copies in, the four kinds of the exchange, the copies out. -/
theorem sems_split (Φ : Fin 54 → sProp 𝕄) : bigSep Finset.univ Φ
    = iprop((bigSep Finset.univ fun k : Fin 6 => Φ (cpS k)) ∗ (bigSep Finset.univ fun k : Fin 8 => Φ (zsS k)) ∗ (bigSep Finset.univ fun k : Fin 8 => Φ (zrS k))
      ∗ (bigSep Finset.univ fun k : Fin 8 => Φ (xsS k)) ∗ (bigSep Finset.univ fun k : Fin 8 => Φ (xrS k)) ∗ bigSep Finset.univ fun k : Fin 16 => Φ (outS k)) := by
  rw [segs (a := 6) (b := 48) cpS (fun i => dS (6 + i.val) (by omega)) rfl (fun _ => rfl) (fun _ => rfl) Φ,
    segs (n := 48) (a := 8) (b := 40) (fun i => ⟨i.val, by omega⟩) (fun i => ⟨8 + i.val, by omega⟩) rfl (fun _ => rfl) (fun _ => rfl),
    segs (n := 40) (a := 8) (b := 32) (fun i => ⟨i.val, by omega⟩) (fun i => ⟨8 + i.val, by omega⟩) rfl (fun _ => rfl) (fun _ => rfl),
    segs (n := 32) (a := 8) (b := 24) (fun i => ⟨i.val, by omega⟩) (fun i => ⟨8 + i.val, by omega⟩) rfl (fun _ => rfl) (fun _ => rfl),
    segs (n := 24) (a := 8) (b := 16) (fun i => ⟨i.val, by omega⟩) (fun i => ⟨8 + i.val, by omega⟩) rfl (fun _ => rfl) (fun _ => rfl)]
  simp only [← Nat.add_assoc, Nat.reduceAdd]

/-- The exchange's cells of a device: the barrier's, the two kinds of the first exchange, the two of the second. -/
theorem cells_split (Φ : SemLoc sig → sProp 𝕄) : (bigSep Finset.univ fun k : Fin 33 => Φ (csem k))
    = iprop(Φ (.reg barS) ∗ (bigSep Finset.univ fun k : Fin 8 => Φ (.dma (zsS k))) ∗ (bigSep Finset.univ fun k : Fin 8 => Φ (.dma (zrS k)))
      ∗ (bigSep Finset.univ fun k : Fin 8 => Φ (.dma (xsS k))) ∗ bigSep Finset.univ fun k : Fin 8 => Φ (.dma (xrS k))) := by
  have hc (n : ℕ) (h : n < 33) (h0 : n ≠ 0) : csem ⟨n, h⟩ = .dma (dS (5 + n) (by omega)) := dif_neg h0
  rw [segs (n := 33) (a := 1) (b := 32) (fun i => ⟨i.val, by omega⟩) (fun i => ⟨1 + i.val, by omega⟩) rfl (fun _ => rfl) (fun _ => rfl),
    segs (n := 32) (a := 8) (b := 24) (fun i => ⟨i.val, by omega⟩) (fun i => ⟨8 + i.val, by omega⟩) rfl (fun _ => rfl) (fun _ => rfl),
    segs (n := 24) (a := 8) (b := 16) (fun i => ⟨i.val, by omega⟩) (fun i => ⟨8 + i.val, by omega⟩) rfl (fun _ => rfl) (fun _ => rfl),
    segs (n := 16) (a := 8) (b := 8) (fun i => ⟨i.val, by omega⟩) (fun i => ⟨8 + i.val, by omega⟩) rfl (fun _ => rfl) (fun _ => rfl),
    bigSep_univ_eq_bigSepL [(0 : Fin 1)] (by decide) (by decide) (Φ := fun i : Fin 1 => Φ (csem ⟨i.val, by omega⟩))]
  have e (k : ℕ) (n : ℕ) (h : n < 33) (h' : k < 54) (hk : 5 + n = k) (hn : 6 ≤ k) : csem ⟨n, h⟩ = .dma (dS k h') := by
    subst hk; exact hc n h (by omega)
  refine congrArg₂ (fun P Q : sProp 𝕄 => iprop(P ∗ Q)) rfl (congrArg₂ (fun P Q : sProp 𝕄 => iprop(P ∗ Q)) ?_
    (congrArg₂ (fun P Q : sProp 𝕄 => iprop(P ∗ Q)) ?_ (congrArg₂ (fun P Q : sProp 𝕄 => iprop(P ∗ Q)) ?_ ?_)))
  · exact bigSep_congr fun k _ => congrArg Φ (e (6 + k.val) _ _ _ (by simp only []; omega) (by omega))
  · exact bigSep_congr fun k _ => congrArg Φ (e (14 + k.val) _ _ _ (by simp only []; omega) (by omega))
  · exact bigSep_congr fun k _ => congrArg Φ (e (22 + k.val) _ _ _ (by simp only []; omega) (by omega))
  · exact bigSep_congr fun k _ => congrArg Φ (e (30 + k.val) _ _ _ (by simp only []; omega) (by omega))

theorem csem_injective : Function.Injective csem := by
  intro k k' h
  unfold csem at h
  by_cases h0 : k.val = 0 <;> by_cases h1 : k'.val = 0
  · exact Fin.ext (h0.trans h1.symm)
  · rw [dif_pos h0, dif_neg h1] at h; exact absurd h (by intro h; cases h)
  · rw [dif_neg h0, dif_pos h1] at h; exact absurd h (by intro h; cases h)
  · rw [dif_neg h0, dif_neg h1] at h
    have := congrArg Fin.val (SemLoc.dma.inj h)
    exact Fin.ext (by have h2 : 5 + k.val = 5 + k'.val := this; omega)
theorem kcell_injective : Function.Injective (kcell : Dev nD × Fin 33 → GSem nD τ sig) := by
  rintro ⟨c, k⟩ ⟨c', k'⟩ h
  have h1 : c = c' := congrArg (fun g : GSem nD τ sig => g.1.1) h
  have h2 : k = k' := csem_injective (congrArg Prod.snd h)
  rw [h1, h2]
def cubeCells : Finset (GSem nD τ sig) := Finset.univ.map ⟨kcell, kcell_injective⟩

/-- A device's own cells' duty tokens as minted. -/
abbrev tokOf (x : (Dev nD × Fin 33) × Fin 3) : GSem nD τ sig × ℕ × Fin 3 := (kcell x.1, 0, x.2)
theorem tokOf_injective : Function.Injective tokOf := by
  rintro ⟨x, d⟩ ⟨x', d'⟩ h
  have h1 : x = x' := kcell_injective (congrArg Prod.fst h)
  have h2 : d = d' := congrArg (fun y : GSem nD τ sig × ℕ × Fin 3 => y.2.2) h
  rw [h1, h2]
def cubeToks : Finset (GSem nD τ sig × ℕ × Fin 3) := Finset.univ.map ⟨tokOf, tokOf_injective⟩

def u₀ : UU := (initOf (Pipeline.cells cfgs cellOf_inj) (Pipeline.launchToks cfgs cellOf_inj), (initOf cubeCells cubeToks, (1 : Counters)))

/-- The duty tokens of device `c`'s own cells. -/
def toks (c : Dev nD) : sProp 𝕄 :=
  iprop(dutyTok ER (barC c) 0 0 ∗ dutyTok ER (barC c) 0 1 ∗ dutyTok ER (barC c) 0 2
    ∗ (bigSep Finset.univ fun k : Fin 8 => dutyTok ER (dC c (zsS k)) 0 0)
    ∗ (bigSep Finset.univ fun k : Fin 8 => dutyTok ER (dC c (zrS k)) 0 0)
    ∗ (bigSep Finset.univ fun k : Fin 8 => dutyTok ER (dC c (xsS k)) 0 0)
    ∗ (bigSep Finset.univ fun k : Fin 8 => dutyTok ER (dC c (xrS k)) 0 0))

/-- What the launch deals device `c`. -/
def G (c : Dev nD) : sProp 𝕄 :=
  iprop((bigSep Finset.univ fun k : Fin 33 => roundState ER (Rd (F := F) m) (kcell (c, k)) 0)
    ∗ (bigSep Finset.univ fun k : Fin 33 => iprop(atPos ER (kcell (c, k)) 0 ∅ 0 ∗ reached ER (kcell (c, k)) 0)) ∗ toks c)

theorem one_tok (g : GSem nD τ sig) : (bigSep Finset.univ fun d : Fin 3 => (dutyTok ER g 0 d : sProp 𝕄)) ⊢ dutyTok ER g 0 0 :=
  bigSep_elim (Φ := fun d : Fin 3 => (dutyTok ER g 0 d : sProp 𝕄)) (Finset.mem_univ 0)

theorem toks8 (c : Dev nD) (s : Fin 8 → DmaSem sig) : (bigSep Finset.univ fun k : Fin 8 => bigSep Finset.univ fun d : Fin 3 => (dutyTok ER (dC c (s k)) 0 d : sProp 𝕄))
    ⊢ bigSep Finset.univ fun k : Fin 8 => dutyTok ER (dC c (s k)) 0 0 := bigSep_mono fun k _ => one_tok (dC c (s k))

theorem toks_of (c : Dev nD) : (bigSep Finset.univ fun k : Fin 33 => bigSep Finset.univ fun d : Fin 3 => (dutyTok ER (kcell (c, k)) 0 d : sProp 𝕄)) ⊢ toks c := by
  rw [cells_split fun s => bigSep Finset.univ fun d : Fin 3 => (dutyTok ER ((c : Thread nD τ), s) 0 d : sProp 𝕄), fam3]
  unfold toks
  iintro ⟨⟨B0, B1, B2⟩, S, R, X, Y⟩
  isplitl [B0]; · iexact B0
  isplitl [B1]; · iexact B1
  isplitl [B2]; · iexact B2
  isplitl [S]; · iapply (toks8 c zsS); iexact S
  isplitl [R]; · iapply (toks8 c zrS); iexact R
  isplitl [X]; · iapply (toks8 c xsS); iexact X
  iapply (toks8 c xrS); iexact Y

theorem fund_cube : BI.own (ER (initOf cubeCells cubeToks)) ⊢ (|==> bigSep Finset.univ (G m) : sProp 𝕄) := by
  have hX (Φ : GSem nD τ sig → sProp 𝕄) : bigSep cubeCells Φ = bigSep Finset.univ fun c : Dev nD => bigSep Finset.univ fun k : Fin 33 => Φ (kcell (c, k)) := by
    unfold cubeCells; rw [bigSep_map, bigSep_univ_prod]; rfl
  have hT : bigSep cubeToks (fun x => (dutyTok ER x.1 x.2.1 x.2.2 : sProp 𝕄)) ⊢ bigSep Finset.univ fun c : Dev nD => toks c := by
    unfold cubeToks; rw [bigSep_map, bigSep_univ_prod, bigSep_univ_prod]
    exact bigSep_mono fun c _ => toks_of c
  iintro HX
  imod (Rounds.fund ER (Rd (F := F) m) cubeCells cubeToks) $$ HX with ⟨Hst, Hr, Hat, Htok⟩
  imodintro
  ihave Hst' := (Entails.of_eq (hX fun g => roundState ER (Rd (F := F) m) g 0)) $$ Hst
  ihave Hat' := (Entails.of_eq (hX fun g => atPos ER g 0 ∅ 0)) $$ Hat
  ihave Hr' := (Entails.of_eq (hX fun g => reached ER g 0)) $$ Hr
  ihave Htok' := (hT) $$ Htok
  unfold G; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (barC c) 0 := by
  unfold unscopedSems0; rw [bigSep_eq_bigSepL_of_eq [SemLoc.reg barS] (by decide) (by decide)]; rfl

abbrev own6 (c : Dev nD) : sProp 𝕄 :=
  iprop((bigSep Finset.univ fun k : Fin 6 => semVal (dC c (cpS k)) 0) ∗ (bigSep Finset.univ fun k : Fin 8 => semVal (dC c (zsS k)) 0)
    ∗ (bigSep Finset.univ fun k : Fin 8 => semVal (dC c (zrS k)) 0) ∗ (bigSep Finset.univ fun k : Fin 8 => semVal (dC c (xsS k)) 0)
    ∗ (bigSep Finset.univ fun k : Fin 8 => semVal (dC c (xrS k)) 0) ∗ bigSep Finset.univ fun k : Fin 16 => semVal (dC c (outS k)) 0)
theorem own_in (c : Dev nD) : (Pipeline.ownSems0 (Ix := Unit) (Name := ℕ) (U := UU) (Lvl := ℕ) (Val := Elt F) (τ := τ) osem c : sProp 𝕄) ⊢ own6 c := Entails.of_eq (sems_split fun q => (semVal (dC c q) 0 : sProp 𝕄))
theorem own_out (c : Dev nD) : own6 c ⊢ (Pipeline.ownSems0 (Ix := Unit) (Name := ℕ) (U := UU) (Lvl := ℕ) (Val := Elt F) (τ := τ) osem c : sProp 𝕄) := Entails.of_eq (sems_split fun q => (semVal (dC c q) 0 : sProp 𝕄)).symm

theorem cell_open (g : GSem nD τ sig) : iprop((∃ κ : ℕ, cellInv ER (Rd (F := F) m) κ g) ∗ reached ER g 0) ⊢ cellOK m g := by
  unfold cellOK
  iintro ⟨⟨%κ, H⟩, R⟩
  iexists κ
  isplitl [H]; · iexact H
  iexact R

/-- Every cell of device `c`'s, open; its own copies' semaphores; its places; its cells' tokens. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 33 => cellOK m (kcell (c, k))) ∗ semPre c ∗ posPre c ∗ toks c) := by
  rw [unscopedSems0_eq]
  unfold G
  iintro ⟨Hos, Hb, Hst, Hat, Htok⟩
  ihave Hos := (own_in (F := F) c) $$ Hos
  icases Hos with ⟨Hcp, Hzs, Hzr, Hxs, Hxr, Hout⟩
  ihave Hv := (Entails.of_eq (cells_split fun s => (semVal ((c : Thread nD τ), s) 0 : sProp 𝕄)).symm) $$ [Hb Hzs Hzr Hxs Hxr]
  · isplitl [Hb]; · iexact Hb
    isplitl [Hzs]; · iexact Hzs
    isplitl [Hzr]; · iexact Hzr
    isplitl [Hxs]; · iexact Hxs
    iexact Hxr
  imod (show iprop((bigSep Finset.univ fun k : Fin 33 => semVal (kcell (c, k)) 0) ∗ bigSep Finset.univ fun k : Fin 33 => roundState ER (Rd (F := F) m) (kcell (c, k)) 0)
      ⊢ (|={Set.univ}=> bigSep Finset.univ fun k => iprop(∃ κ : ℕ, cellInv ER (Rd (F := F) m) κ (kcell (c, k))) : sProp 𝕄) from by
        rw [← bigSep_sep']
        exact (bigSep_mono fun k _ => (Rounds.body_intro ER (Rd (F := F) m) (kcell (c, k))).trans inv_alloc).trans (bigSep_fupd _ _)) $$ [Hv Hst] with Hinv
  · isplitl [Hv]; · iexact Hv
    iexact Hst
  imodintro
  ihave Hat := (Entails.of_eq (bigSep_sep' Finset.univ (fun k : Fin 33 => (atPos ER (kcell (c, k)) 0 ∅ 0 : sProp 𝕄)) (fun k => reached ER (kcell (c, k)) 0))) $$ Hat
  icases Hat with ⟨Hat, Hre⟩
  isplitl [Hinv Hre]
  · iapply (show iprop((bigSep Finset.univ fun k : Fin 33 => iprop(∃ κ : ℕ, cellInv ER (Rd (F := F) m) κ (kcell (c, k)))) ∗ bigSep Finset.univ fun k : Fin 33 => (reached ER (kcell (c, k)) 0 : sProp 𝕄))
        ⊢ bigSep Finset.univ fun k : Fin 33 => cellOK m (kcell (c, k)) from by
      rw [← bigSep_sep']
      exact bigSep_mono fun k _ => cell_open m (kcell (c, k)))
    isplitl [Hinv]; · iexact Hinv
    iexact Hre
  isplitl [Hcp Hout]
  · unfold semPre
    isplitl [Hcp]; · iexact Hcp
    iexact Hout
  isplitl [Hat]
  · unfold posPre
    iapply (Entails.of_eq (cells_split fun s => (atPos ER ((c : Thread nD τ), s) 0 ∅ 0 : sProp 𝕄))); iexact Hat
  iexact Htok

def nbEq (j : Fin 8) : Dev nD ≃ Dev nD := ⟨nb j, nb j, nb_nb j, nb_nb j⟩

/-- The tokens dealt: each to the device that pays the duty. -/
theorem toks_around : (bigSep Finset.univ fun c : Dev nD => (toks c : sProp 𝕄)) ⊢ bigSep Finset.univ fun c : Dev nD => tokPre c := by
  have hx : (bigSep Finset.univ fun c : Dev nD => bigSep Finset.univ fun k : Fin 8 => (dutyTok ER (dC c (xrS k)) 0 0 : sProp 𝕄))
      = bigSep Finset.univ fun c : Dev nD => bigSep Finset.univ fun k : Fin 8 => dutyTok ER (dC (nb k c) (xrS k)) 0 0 := by
    rw [bigSep_univ_comm, bigSep_univ_comm (fun (c : Dev nD) (k : Fin 8) => (dutyTok ER (dC (nb k c) (xrS k)) 0 0 : sProp 𝕄))]
    exact bigSep_congr fun k _ => bigSep_univ_equiv (nbEq k) (fun c : Dev nD => (dutyTok ER (dC c (xrS k)) 0 0 : sProp 𝕄))
  unfold toks tokPre
  simp only [bigSep_sep' (Finset.univ : Finset (Dev nD))]
  rw [hx, bigSep_univ_equiv zEq (fun c : Dev nD => (dutyTok ER (barC c) 0 0 : sProp 𝕄)),
    bigSep_univ_equiv xEq (fun c : Dev nD => (dutyTok ER (barC c) 0 1 : sProp 𝕄)),
    bigSep_univ_equiv yEq (fun c : Dev nD => (dutyTok ER (barC c) 0 2 : sProp 𝕄)),
    bigSep_univ_equiv zEq (fun c : Dev nD => bigSep Finset.univ fun k : Fin 8 => (dutyTok ER (dC c (zrS k)) 0 0 : sProp 𝕄))]
  iintro H
  iexact H

/-- What the global step leaves device `c`. -/
def G' (c : Dev nD) : sProp 𝕄 :=
  iprop((bigSep Finset.univ fun ck : Dev nD × Fin 33 => cellOK m (kcell ck)) ∗ semPre c ∗ posPre c ∗ tokPre c)

theorem regroup : (bigSep Finset.univ fun c : Dev nD => iprop((bigSep Finset.univ fun k : Fin 33 => cellOK m (kcell (c, k))) ∗ semPre c ∗ posPre c ∗ toks c))
    ⊢ (bigSep Finset.univ (G' m) : sProp 𝕄) := by
  unfold G'
  simp only [bigSep_sep' (Finset.univ : Finset (Dev nD))]
  rw [← bigSep_univ_prod (fun ck : Dev nD × Fin 33 => cellOK m (kcell ck))]
  iintro ⟨#HI, Hs, Hp, Ht⟩
  isplitr
  · iapply (BI.bigSep_of_persistent (Finset.univ : Finset (Dev nD)) (bigSep Finset.univ fun ck : Dev nD × Fin 33 => cellOK m (kcell ck))); iexact HI
  isplitl [Hs]; · iexact Hs
  isplitl [Hp]; · iexact Hp
  iapply (toks_around (F := F)); iexact Ht

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- The cell of `c` that debt `n` of one of its neighbours is owed to. -/
def dueC (c : Dev nD) (n : ℕ) : GSem nD τ sig :=
  if n < 8 then dC c (xrS (Fin.ofNat 8 (7 - n))) else if n < 16 then dC c (zrS (Fin.ofNat 8 (15 - n))) else barC c

theorem due_one (c : Dev nD) (n : ℕ) :
    (Pipeline.launchCred (fun d => tallyAt (debtC d n) () (debtA n)) c : sProp 𝕄) ⊢ cred (tallyAt (dueC c n) () (debtA n)) := by
  unfold debtC dueC
  by_cases h : n < 8
  · simp only [if_pos h]
    exact Pipeline.launchCred_tallyAt _ (nb (Fin.ofNat 8 (7 - n))) (nb (Fin.ofNat 8 (7 - n))) (nb_nb _) (nb_nb _) () _ c
  simp only [if_neg h]
  by_cases h : n < 16
  · simp only [if_pos h]; exact Pipeline.launchCred_tallyAt _ zp zp zp_zp zp_zp () _ c
  simp only [if_neg h]
  by_cases h : n = 16
  · simp only [if_pos h]; exact Pipeline.launchCred_tallyAt _ yn yn yn_yn yn_yn () _ c
  simp only [if_neg h]
  by_cases h : n = 17
  · simp only [if_pos h]; exact Pipeline.launchCred_tallyAt _ xn xn xn_xn xn_xn () _ c
  simp only [if_neg h]; exact Pipeline.launchCred_tallyAt _ zp zp zp_zp zp_zp () _ c

theorem due_all (c : Dev nD) : ∀ n, (Pipeline.launchCred (fun d => owe d n) c : sProp 𝕄)
    ⊢ bigSep (Finset.range n) fun j => cred (tallyAt (dueC c j) () (debtA j))
  | 0 => by rw [Finset.range_zero, BI.bigSep_empty]; iintro -; iempintro
  | n + 1 => by
    rw [Finset.range_add_one, bigSep_insert Finset.notMem_range_self]
    refine (Entails.of_eq (Pipeline.launchCred_add (fun d => owe d n) (fun d => tallyAt (debtC d n) () (debtA n)) c)).trans ?_
    iintro ⟨H, Hn⟩
    iapply (show iprop(cred (tallyAt (dueC c n) () (debtA n)) ∗ bigSep (Finset.range n) fun j => cred (tallyAt (dueC c j) () (debtA j)))
      ⊢ (BI.sep (cred (tallyAt (dueC c n) () (debtA n))) (bigSep (Finset.range n) fun j => cred (tallyAt (dueC c j) () (debtA j))) : sProp 𝕄) from .rfl)
    isplitl [Hn]; · iapply (due_one c n); iexact Hn
    iapply (due_all c n); iexact H

theorem bar3 (c : Dev nD) : iprop(cred (tallyAt (barC c) () 1) ∗ cred (tallyAt (barC c) () 1) ∗ cred (tallyAt (barC c) () 1))
    ⊢ (cred (tallyAt (barC c) () 3) : sProp 𝕄) := by
  rw [show tallyAt (barC c) () 3 = tallyAt (barC c) () 1 + (tallyAt (barC c) () 1 + tallyAt (barC c) () 1) from by rw [tallyAt_add, tallyAt_add]]
  iintro ⟨H1, H2, H3⟩
  iapply (cred_add _ _).2
  isplitl [H1]; · iexact H1
  iapply (cred_add _ _).2
  isplitl [H2]; · iexact H2
  iexact H3

theorem creds (c : Dev nD) : (Pipeline.launchCred (fun d => owe d 19) c : sProp 𝕄) ⊢ credPre c := by
  refine (due_all c 19).trans ?_
  rw [bigSep_eq_bigSepL_of_eq [0, 1, 2, 3, 4, 5, 6, 7, 8, 9, 10, 11, 12, 13, 14, 15, 16, 17, 18] (by decide) (by decide)]
  unfold credPre
  simp only [fam8]
  refine (show _ ⊢ iprop(cred (tallyAt (dC c (xrS 7)) () NT) ∗ cred (tallyAt (dC c (xrS 6)) () NT) ∗ cred (tallyAt (dC c (xrS 5)) () NT) ∗ cred (tallyAt (dC c (xrS 4)) () NT) ∗ cred (tallyAt (dC c (xrS 3)) () NT) ∗ cred (tallyAt (dC c (xrS 2)) () NT) ∗ cred (tallyAt (dC c (xrS 1)) () NT) ∗ cred (tallyAt (dC c (xrS 0)) () NT) ∗ cred (tallyAt (dC c (zrS 7)) () NT) ∗ cred (tallyAt (dC c (zrS 6)) () NT) ∗ cred (tallyAt (dC c (zrS 5)) () NT) ∗ cred (tallyAt (dC c (zrS 4)) () NT) ∗ cred (tallyAt (dC c (zrS 3)) () NT) ∗ cred (tallyAt (dC c (zrS 2)) () NT) ∗ cred (tallyAt (dC c (zrS 1)) () NT) ∗ cred (tallyAt (dC c (zrS 0)) () NT) ∗ cred (tallyAt (barC c) () 1) ∗ cred (tallyAt (barC c) () 1) ∗ cred (tallyAt (barC c) () 1)) from Entails.of_eq rfl).trans ?_
  iintro ⟨Y7, Y6, Y5, Y4, Y3, Y2, Y1, Y0, R7, R6, R5, R4, R3, R2, R1, R0, B0, B1, B2⟩
  isplitl [B0 B1 B2]
  · iapply (bar3 c)
    isplitl [B0]; · iexact B0
    isplitl [B1]; · iexact B1
    iexact B2
  isplitl [R0 R1 R2 R3 R4 R5 R6 R7]
  · isplitl [R0]; · iexact R0
    isplitl [R1]; · iexact R1
    isplitl [R2]; · iexact R2
    isplitl [R3]; · iexact R3
    isplitl [R4]; · iexact R4
    isplitl [R5]; · iexact R5
    isplitl [R6]; · iexact R6
    iexact R7
  isplitl [Y0]; · iexact Y0
  isplitl [Y1]; · iexact Y1
  isplitl [Y2]; · iexact Y2
  isplitl [Y3]; · iexact Y3
  isplitl [Y4]; · iexact Y4
  isplitl [Y5]; · iexact Y5
  isplitl [Y6]; · iexact Y6
  iexact Y7

/-! ## Into the pipeline and out of it -/

/-- What device `c` brings to the body beside the buffers in fast memory. -/
def start (c : Dev nD) : sProp 𝕄 := iprop(world m ∗ memPre m c ∗ semPre c ∗ posPre c ∗ tokPre c ∗ credPre c)

theorem start_intro (c : Dev nD) :
    iprop(Pipeline.unscopedRestP Pipeline.Prefetch.none cfg0.spec c (fun b => m ((c : Thread nD τ).loc b)) ∗ levAts L lv
        ∗ Pipeline.launchCred (fun d => owe d 19) c ∗ prngReg c (ρ c) ∗ G' m c)
      ⊢ |={Set.univ}=> iprop(start m c ∗ emp) := by
  rw [Pipeline.unscopedRestP_none]
  unfold G' start world
  iintro ⟨Hm, Hlev, Hcr, -, HI, Hs, Hp, Ht⟩
  imodintro
  isplitl
  · isplitl [Hlev HI]
    · isplitl [Hlev]; · iexact Hlev
      iexact HI
    isplitl [Hm]; · iapply (mem_in m c); iexact Hm
    isplitl [Hs]; · iexact Hs
    isplitl [Hp]; · iexact Hp
    isplitl [Ht]; · iexact Ht
    iapply (creds (F := F) c); iexact Hcr
  · iempintro

theorem phi_in (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(world m ∗ bodyPre m c) from rfl]
  unfold start bodyPre
  iintro ⟨⟨Hw, Hm, Hs, Hp, Ht, Hc⟩, -, Hr⟩
  isplitl [Hw]; · iexact Hw
  isplitl [Hm]; · iexact Hm
  isplitl [Hr]; · iapply (scr_in (F := F) c); iexact Hr
  isplitl [Hs]; · iexact Hs
  isplitl [Hp]; · iexact Hp
  isplitl [Ht]; · iexact Ht
  iexact Hc

/-- What is kept past the end: the arguments and the result, and the barrier semaphore at zero. -/
def keep (c : Dev nD) : sProp 𝕄 := iprop(memEnd m c ∗ unscopedSems0 c)

theorem phi_out (c : Dev nD) :
    (dats m 0 c).Φ (Fin.last cfg0.N) ⊢ iprop(keep m c ∗ Pipeline.ownSems0 (Ix := Unit) (Name := ℕ) (U := UU) (Lvl := ℕ) (Val := Elt F) (τ := τ) osem c ∗ Pipeline.scopedRest cfg0.spec c) := by
  rw [show (dats m 0 c).Φ (Fin.last cfg0.N) = bodyPost m c from rfl]
  unfold bodyPost semPost keep
  rw [unscopedSems0_eq]
  iintro ⟨Hm, Hr, Hcp, Hzs, Hzr, Hxs, Hxr, Hout, Hb⟩
  isplitl [Hm Hb]
  · isplitl [Hm]; · iapply (mem_out m c); iexact Hm
    iexact Hb
  isplitl [Hcp Hzs Hzr Hxs Hxr Hout]
  · iapply (own_out (F := F) c)
    isplitl [Hcp]; · iexact Hcp
    isplitl [Hzs]; · iexact Hzs
    isplitl [Hzr]; · iexact Hzr
    isplitl [Hxs]; · iexact Hxs
    isplitl [Hxr]; · iexact Hxr
    iexact Hout
  iapply (scr_out (F := F) c); iexact Hr

/-- What the memory then holds on device `c`. -/
def EndOK (c : Dev nD) (s : MemSt nD τ sig (Elt F)) : Prop :=
  (s.mem ((c : Thread nD τ).loc main_arg0) = m ((c : Thread nD τ).loc main_arg0) ∧ s.mem ((c : Thread nD τ).loc main_arg1) = m ((c : Thread nD τ).loc main_arg1))
    ∧ OutOK m c (s.mem ((c : Thread nD τ).loc main_v1))

theorem end_read (c : Dev nD) (s' : Phys nD τ sig (Elt F)) :
    iprop(keep m c ∗ emp ∗ SI s') ⊢ |={Set.univ}=> iprop(⌜EndOK m c s'.mem ∧ ∀ sm : SemLoc sig, sm.isScoped .tc = false → s'.mem.sem ((c.tc : Thread nD τ), sm) = 0⌝ ∗ SI s') := by
  unfold keep memEnd
  iintro ⟨⟨⟨H0, H1, %X, %hX, H2⟩, Hb⟩, -, HSI⟩
  imod (Pipeline.unscopedSems0_read (X := unscopedSems0 c) (c := c) fupd_intro s') $$ [Hb HSI] with ⟨%hs, HSI⟩
  · isplitl [Hb] <;> iassumption
  ihave H := (persistent_entails_right (SI_pointsTo_agree (st := s') (ℓ := (c : Thread nD τ).loc main_arg0) (I := Finset.univ) (q := fullShare) (f := m ((c : Thread nD τ).loc main_arg0)))) $$ [HSI H0]
  · isplitl [HSI] <;> iassumption
  icases H with ⟨%h0, HSI, H0⟩
  ihave H := (persistent_entails_right (SI_pointsTo_agree (st := s') (ℓ := (c : Thread nD τ).loc main_arg1) (I := Finset.univ) (q := fullShare) (f := m ((c : Thread nD τ).loc main_arg1)))) $$ [HSI H1]
  · isplitl [HSI] <;> iassumption
  icases H with ⟨%h1, HSI, H1⟩
  ihave H := (persistent_entails_right (SI_pointsTo_agree (st := s') (ℓ := (c : Thread nD τ).loc main_v1) (I := Finset.univ) (q := fullShare) (f := X))) $$ [HSI H2]
  · isplitl [HSI] <;> iassumption
  icases H with ⟨%h2, HSI, H2⟩
  imodintro
  isplitr
  · ipureintro
    exact ⟨⟨⟨funext fun i => h0 i (Finset.mem_univ i), funext fun i => h1 i (Finset.mem_univ i)⟩, fun t k j => (h2 _ (Finset.mem_univ _)).trans (hX t k j)⟩, hs⟩
  iexact HSI

theorem waits (c : Dev nD) : (levAts L lv : sProp 𝕄) ⊢ Pipeline.cellsWaits cfgs (dats m) () 0 c :=
  Pipeline.cellsWaits_intro cfgs (dats m) () 0 c fun w => w.elim0

/-! ## The run -/

/-- For any float values, from any memory with zero counters: every weakly fair execution of `@main` on the eight devices
    terminates, each device's arguments unchanged, its result at the named contents, every semaphore counter at zero. -/
theorem run_main : θ_run defs (onTc (τ := τ) (main (F := F))) (s₀ m ρ) (fun r => (∀ c : Dev nD, EndOK m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := fun d => owe d 19) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (show (ownU ((initOf (Pipeline.cells cfgs cellOf_inj) (Pipeline.launchToks cfgs cellOf_inj), (initOf cubeCells cubeToks, (1 : Counters))) : UU) : sProp 𝕄)
          ⊢ iprop(BI.own (EP (initOf (Pipeline.cells cfgs cellOf_inj) (Pipeline.launchToks cfgs cellOf_inj))) ∗ BI.own (ER (initOf cubeCells cubeToks))) from
        BI.own_op_elim ((uEmb (nD := nD) (sig := sig) (Ix := Unit) (Val := Elt F) (Name := ℕ) (U := UU) (Lvl := ℕ)).toEmb.op_of_mem
          (Prod.mk_mem_op (URA.mem_op_one _) (URA.mem_one_op (_, (1 : Counters)))))) $$ Hu
      icases H with ⟨HP, HX⟩
      imod (fund_cube m) $$ HX with HG
      imodintro
      isplitl [HP] <;> iassumption)
    (hglob := glob m)
    (hA := fun _ _ => rfl) (hpf := fun _ k => k.elim0)
    (X := start m) (Y := keep m) (Z := fun _ => iprop(emp))
    (hX := start_intro m ρ) (hin := phi_in m) (hout := phi_out m)
    (QY := fun c s => EndOK m c s ∧ ∀ sm : SemLoc sig, sm.isScoped .tc = false → s.sem ((c.tc : Thread nD τ), sm) = 0)
    (hY := fun c s' => end_read m c s')
    (hQ := fun _ h hs => ⟨fun c => (h c).2.2.1, sem_eq_zero hs fun c => (h c).2.2.2⟩)

end Cert.CubeProof

end
-- ==== Proof.Values.lean ====
/-
# The value of the result

Over the extended reals the changes of format are the identity, a tile's product is a plain sum over one half of the
contracted axis, and the sum of the two halves' products is the sum over the whole axis: each device's result is the
reference's, whichever device computed the tile.
-/
module

public import proofs.«01_k».proof.Proof.Launch
public import proofs.«01_k».proof.Proof.Gen.ReferenceIdeal.Run
public import Idealize.ShloMosaic.Lib.Layout
public import Idealize.ShloMosaic.Lib.MatmulPlain
public import Idealize.ShloMosaic.Lib.StackMember
public import Idealize.ShloMosaic.Lib.ValueLayout
public import Idealize.ShloMosaic.Lib.Pipeline.Value
public import Idealize.ShloMosaic.Lib.Pointwise.Reshape
public import Idealize.ShloMosaic.PureOps.Ideal.Laws

@[expose] public section

noncomputable section

namespace Cert.CubeProof

open Cert.KernelIdeal Cert.KernelIdeal.Gen

open Idealize.ShloMosaic hiding ix2
open Idealize.ShloMosaic.TcCoe Idealize.ShloMosaic.ValueIdx
open scoped BigOperators

abbrev Sbig : Shape := ⟨2, ![1024, 8192]⟩

/-! ## The reference -/

theorem sum_halves (n : ℕ) {N : ℕ} (f : Fin N → EReal) (h : N = n + n) :
    ∑ x, f x = (∑ x : Fin n, f ⟨x.val, by have := x.isLt; omega⟩) + ∑ x : Fin n, f ⟨n + x.val, by have := x.isLt; omega⟩ := by
  subst h; exact Fin.sum_univ_add f

section Reference
variable (A B : FVec Ideal Sbig .f32)

/-- Position `x` of half `z` of the contracted axis. -/
def col (z : Fin 2) (x : Fin 4096) : Fin 8192 := ⟨4096 * z.val + x.val, by have := z.isLt; have := x.isLt; omega⟩

/-- Half `z` of the contraction for row `r` and column `q` of the result. -/
def half (z : Fin 2) (r q : Fin 1024) : EReal := ∑ x : Fin 4096, A (ix2 r (col z x)) * B (ix2 q (col z x))

/-- What the reference's run leaves. -/
def refV : FVec Ideal S1024x1024 .f32 :=
  Host.dotGeneral Cert.ReferenceIdeal.dot_S1024x8192_S8192x1024_S1024x1024_1_0_0_1_n_n none A
    (transpose Cert.ReferenceIdeal.S8192x1024 [1, 0] B Cert.ReferenceIdeal.Facts₀.transposes_S1024x8192_S8192x1024_1_0)

theorem refV_apply (r q : Fin 1024) : refV A B (ix2 r q) = half A B 0 r q + half A B 1 r q := by
  unfold refV
  rw [show Cert.ReferenceIdeal.dot_S1024x8192_S8192x1024_S1024x1024_1_0_0_1_n_n = DotDims.plain 1024 8192 1024 from rfl,
    StackMember.dotGeneral_plain_apply]
  refine (Finset.sum_congr rfl fun x _ => congrArg (A (ix2 r x) * ·) (transpose_ix2_apply B _ x q)).trans ?_
  have h8 : (8192 : ℕ) = 4096 + 4096 := by norm_num
  rw [sum_halves 4096 (fun x : Fin 8192 => A (ix2 r x) * B (ix2 q x)) h8]
  unfold half
  refine congrArg₂ (· + ·) (Finset.sum_congr rfl fun x _ => ?_) (Finset.sum_congr rfl fun x _ => ?_)
  · have e : (⟨x.val, by have := x.isLt; omega⟩ : Fin 8192) = col 0 x := Fin.ext (by simp only [col, Fin.val_zero]; omega)
    rw [e]
  · have e : (⟨4096 + x.val, by have := x.isLt; omega⟩ : Fin 8192) = col 1 x := Fin.ext (by simp only [col, Fin.val_one])
    rw [e]

end Reference

/-! ## The tiles over the extended reals -/

theorem pay1_ideal (v : Vec Ideal S1x256x4096 .f32) : k0_pay1 (F := Ideal) v = v := by
  show shapeCast S1x256x4096 (shapeCast S256x4096 v _) _ = v
  rw [shapeCast_comp, shapeCast_id]
theorem pay2_ideal (v : Vec Ideal S256x4096 .f32) : k0_pay2 (F := Ideal) v = v := shapeCast_id _ _
theorem pay15_ideal (v w : Vec Ideal S256x256 .bf16) : k0_pay15 (F := Ideal) v w = fun j => (v j + w j : EReal) := shapeCast_id _ _
theorem pay16_ideal (v : Vec Ideal S256x256 .bf16) : k0_pay16 (F := Ideal) v = v := shapeCast_id _ _
theorem pay28_ideal (v : Vec Ideal S256x256 .bf16) : k0_pay28 (F := Ideal) v = v := shapeCast_id _ _
theorem pay24_ideal (v w : Vec Ideal S256x256 .bf16) : k0_pay24 (F := Ideal) v w = fun j => (v j + w j : EReal) := shapeCast_id _ _
theorem pay3_ideal (v : Vec Ideal S256x4096 .f32) (w : Vec Ideal S256x4096 .bf16) (a b : Fin 256) :
    k0_pay3 (F := Ideal) (shapeCast S1x256x4096 v casts1) w (ix2 a b) = ∑ x : Fin 4096, (v (ix2 a x) * w (ix2 b x) : EReal) := by
  show shapeCast S256x256 (FloatOps.matmul (F := Ideal) (φ₁ := .bf16) (φ₂ := .bf16) dot_S256x4096_S256x4096_S256x256_1_1_0_0_n_n none
    (shapeCast S256x4096 (shapeCast S1x256x4096 v casts1) shapeCasts_S1x256x4096_S256x4096) w (constant S256x256 .f32 0x00000000#32)) _ (ix2 a b) = _
  rw [shapeCast_id, shapeCast_comp, shapeCast_id,
    show dot_S256x4096_S256x4096_S256x256_1_1_0_0_n_n = DotDims.transposedRhs 256 4096 256 from rfl, Ideal.matmul_transposedRhs_apply]
  show Ideal.ofBits .f32 0x00000000#32 + _ = _
  rw [Ideal.ofBits_zero_f32, zero_add]

section Tiles
variable (m : (ℓ : Loc nD τ sig) → Buf (Elt Ideal) ℓ) (A B : FVec Ideal Sbig .f32)

/-- Each device holds its half of the columns of the two arrays. -/
def Dealt : Prop := ∀ c : Dev nD,
  m ((c.tc : Thread nD τ).loc main_arg0) = Layout.blockN ⟨2, ![1024, 4096]⟩ ⟨2, ![1024, 8192]⟩ (Layout.meshBlock [2, 2, 2] ![[], [2]] c) A
  ∧ m ((c.tc : Thread nD τ).loc main_arg1) = Layout.blockN ⟨2, ![1024, 4096]⟩ ⟨2, ![1024, 8192]⟩ (Layout.meshBlock [2, 2, 2] ![[], [2]] c) B

/-- Which half is device `c`'s. -/
def zOf (c : Dev nD) : Fin 2 := ⟨c.val % 2, Nat.mod_lt _ (by decide)⟩

/-- Row `a` of row block `t` as device `c` numbers them. -/
def rowAt (c : Dev nD) (t : Fin 4) (a : Fin 256) : Fin 1024 := ⟨rowOff c t + a.val, by have := rowOff_le c t; have := a.isLt; omega⟩
def colAt (k : Fin 4) (b : Fin 256) : Fin 1024 := ⟨256 * k.val + b.val, by have := k.isLt; have := b.isLt; omega⟩

theorem block_at (c : Dev nD) (v : Sbig.Idx → EReal) (r : Fin 1024) (x : Fin 4096) :
    Layout.blockN ⟨2, ![1024, 4096]⟩ ⟨2, ![1024, 8192]⟩ (Layout.meshBlock [2, 2, 2] ![[], [2]] c) v (by decide) (ix2 r x) = v (ix2 r (col (zOf c) x)) := by
  rw [Layout.blockN_apply]
  refine congrArg v (funext fun b => Fin.ext ?_)
  rw [Layout.TilesN.idx_val]
  have h0 : ∀ c : Dev nD, ((Layout.meshBlock [2, 2, 2] (![[], [2]] : Fin 2 → List ℕ) c) 0).val = 0 := by decide
  have h1 : ∀ c : Dev nD, ((Layout.meshBlock [2, 2, 2] (![[], [2]] : Fin 2 → List ℕ) c) 1).val = c.val % 2 := by decide
  match b with
  | ⟨0, _⟩ =>
    refine (congrArg (fun n => n * 1024 + r.val) (h0 c)).trans ?_
    show 0 * 1024 + r.val = r.val
    omega
  | ⟨1, _⟩ =>
    refine (congrArg (fun n => n * 4096 + x.val) (h1 c)).trans ?_
    show c.val % 2 * 4096 + x.val = 4096 * (c.val % 2) + x.val
    omega

theorem emb_row (c : Dev nD) (t : Fin 4) (a : Fin 256) (x : Fin 4096) : (rRow c t).emb (ix2 a x) = ix2 (rowAt c t a) x := by
  funext b; apply Fin.ext
  match b with
  | ⟨0, _⟩ => show rowOff c t + 1 * a.val = rowOff c t + a.val; omega
  | ⟨1, _⟩ => show 0 + 1 * x.val = x.val; omega
theorem emb_w (k : Fin 4) (b : Fin 256) (x : Fin 4096) : (rW k).emb (ix2 b x) = ix2 (colAt k b) x := by
  funext i; apply Fin.ext
  match i with
  | ⟨0, _⟩ => show 256 * k.val + 1 * b.val = 256 * k.val + b.val; omega
  | ⟨1, _⟩ => show 0 + 1 * x.val = x.val; omega
theorem emb_g (c : Dev nD) (t k : Fin 4) (a b : Fin 256) : (rG c t k).emb (ix2 a b) = ix2 (rowAt c t a) (colAt k b) := by
  funext i; apply Fin.ext
  match i with
  | ⟨0, _⟩ => show rowOff c t + 1 * a.val = rowOff c t + a.val; omega
  | ⟨1, _⟩ => show 256 * k.val + 1 * b.val = 256 * k.val + b.val; omega

variable {m A B} (hD : Dealt m A B)
include hD

theorem dyV_at (c : Dev nD) (t : Fin 4) (a : Fin 256) (x : Fin 4096) : dyV m c t (ix2 a x) = A (ix2 (rowAt c t a) (col (zOf c) x)) := by
  unfold dyV
  rw [emb_row, (hD c).1]
  exact block_at c A _ _
theorem wV_at (c : Dev nD) (k : Fin 4) (b : Fin 256) (x : Fin 4096) : wV m c k (ix2 b x) = B (ix2 (colAt k b) (col (zOf c) x)) := by
  unfold wV
  rw [emb_w, (hD c).2]
  exact block_at c B _ _

/-- A device's product tile is its half of the contraction. -/
theorem pV_at (c : Dev nD) (i : Fin 2) (k : Fin 4) (a b : Fin 256) :
    pV m c i k (ix2 a b) = half A B (zOf c) (rowAt c (i.castLE (by decide)) a) (colAt k b) := by
  unfold pV ybV bV y1V
  rw [pay1_ideal, pay2_ideal, pay3_ideal]
  unfold half
  exact Finset.sum_congr rfl fun x _ => by rw [dyV_at hD, wV_at hD]

theorem halves (c : Dev nD) (r q : Fin 1024) : half A B (zOf c) r q + half A B (zOf (zp c)) r q = refV A B (ix2 r q) := by
  rw [refV_apply]
  have h : ∀ c : Dev nD, (zOf c = 0 ∧ zOf (zp c) = 1) ∨ (zOf c = 1 ∧ zOf (zp c) = 0) := by decide
  rcases h c with ⟨h1, h2⟩ | ⟨h1, h2⟩
  · rw [h1, h2]
  · rw [h1, h2, add_comm]

/-- The sum with the neighbour along the third axis is the reference's tile. -/
theorem sum_at (c : Dev nD) (i : Fin 2) (k : Fin 4) (a b : Fin 256) :
    (pV m c i k (ix2 a b) + pV m (zp c) i k (ix2 a b) : EReal) = refV A B (ix2 (rowAt c (i.castLE (by decide)) a) (colAt k b)) := by
  rw [pV_at hD, pV_at hD, ← halves hD c]
  rw [show rowAt (zp c) (i.castLE (by decide)) a = rowAt c (i.castLE (by decide)) a from Fin.ext (by unfold rowAt; simp only [rowOff_zp])]

theorem oV_at (c : Dev nD) (k : Fin 4) (a b : Fin 256) : oV m c k (ix2 a b) = refV A B (ix2 (rowAt c 0 a) (colAt k b)) := by
  unfold oV
  rw [pay15_ideal]
  exact sum_at hD c 0 k a b

theorem uV_at (c : Dev nD) (t k : Fin 4) (a b : Fin 256) : uV m c t k (ix2 a b) = refV A B (ix2 (rowAt c t a) (colAt k b)) := by
  unfold uV
  match t with
  | 0 => simp only [pay16_ideal]; exact oV_at hD c k a b
  | 1 => simp only [pay24_ideal]; exact sum_at hD c 1 k a b
  | 2 => simp only [pay28_ideal]; exact oV_at hD (xn c) k a b
  | 3 => simp only [pay28_ideal]; exact oV_at hD (yn c) k a b

/-- A device's result buffer, known tile by tile, is the reference's result. -/
theorem out_eq (c : Dev nD) (X : Buf (Elt Ideal) ((c : Thread nD τ).loc main_v1)) (h : OutOK m c X) : X = refV A B := by
  funext i
  have hi : i ∈ (Finset.univ : Finset (Fin 4 × Fin 4)).biUnion (fun t => (rG c t.1 t.2).set) := by rw [rG_cov]; exact Finset.mem_univ i
  obtain ⟨⟨t, k⟩, -, hi⟩ := Finset.mem_biUnion.mp hi
  obtain ⟨h0, h1⟩ : (rowOff c t ≤ (i 0).val ∧ (i 0).val < rowOff c t + 256) ∧ (256 * k.val ≤ (i 1).val ∧ (i 1).val < 256 * k.val + 256) :=
    ⟨Rect.mem_set_unit.mp hi 0, Rect.mem_set_unit.mp hi 1⟩
  have e : i = (rG c t k).emb (ix2 (⟨(i 0).val - rowOff c t, by omega⟩ : Fin 256) (⟨(i 1).val - 256 * k.val, by omega⟩ : Fin 256)) := by
    rw [emb_g]
    funext b; apply Fin.ext
    match b with
    | ⟨0, _⟩ => show (i 0).val = rowOff c t + ((i 0).val - rowOff c t); omega
    | ⟨1, _⟩ => show (i 1).val = 256 * k.val + ((i 1).val - 256 * k.val); omega
  rw [e, h t k, uV_at hD, emb_g]

end Tiles

end Cert.CubeProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Values
public import Idealize.ShloMosaic.Adequacy
public import Idealize.ShloMosaic.Init

@[expose] public section

noncomputable section

namespace Cert.Proof

open Idealize.ShloMosaic Idealize.SL.Sem Cert.Kernel

open Cert.CubeProof in
theorem frame_kernel : Cert.quiescent_Kernel := fun m ρ _ =>
  (θ_run Cert.KernelIdeal.defs _ _).mono (fun _ h => ⟨fun c => (h.1 c).1, h.2⟩) (run_main (F := Bits) m ρ)

open Cert.CubeProof in
theorem frame_ideal : Cert.quiescent_KernelIdeal := fun m ρ _ =>
  (θ_run Cert.KernelIdeal.defs _ _).mono (fun _ h => ⟨fun c => (h.1 c).1, h.2⟩) (run_main (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

open Cert.CubeProof in
/-- Every device's result is the reference's, the whole contraction. -/
theorem same : Cert.algebraic_KernelIdeal_ReferenceIdeal := fun m g m' g' _ hA =>
  ⟨refV (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ h c => ⟨out_eq hA c _ (h.1 c).2, (h.1 c).1⟩) (run_main (F := Ideal) m g),
    (θ_run Cert.ReferenceIdeal.defs _ _).mono (fun _ h => h 0) (Cert.ReferenceIdeal.Value.run m' g')⟩

theorem claim : Cert.Claim := ⟨Cert.Kernel.Gen.facts, Cert.KernelIdeal.Gen.facts, Cert.ReferenceIdeal.Gen.facts,
  frame_kernel, frame_ideal, frame_reference, trivial, same⟩

end Cert.Proof

end
